-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_inputs_AttentionIdeal [hPre_finite_inputs_AttentionIdeal : Cert.Pre_finite_inputs_AttentionIdeal.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_inputs_AttentionIdeal.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3))) = (fun _ => 1#1)

def Pre_AttentionReferenceIdeal (m : (ℓ : Loc Cert.AttentionReferenceIdeal.nD Cert.AttentionReferenceIdeal.τ Cert.AttentionReferenceIdeal.sig) → Buf (Elt Ideal) ℓ) : Prop :=
  True

def Pre_AttentionReferenceIdeal_finite_inputs_AttentionReferenceIdeal [hPre_finite_inputs_AttentionReferenceIdeal : Cert.Pre_finite_inputs_AttentionReferenceIdeal.Facts] (m : (ℓ : Loc Cert.AttentionReferenceIdeal.nD Cert.AttentionReferenceIdeal.τ Cert.AttentionReferenceIdeal.sig) → Buf (Elt Ideal) ℓ) : Prop :=
  ∀ c : Dev Cert.AttentionReferenceIdeal.nD,
    (Cert.Pre_finite_inputs_AttentionReferenceIdeal.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2)) (m ((c.tc : Thread Cert.AttentionReferenceIdeal.nD Cert.AttentionReferenceIdeal.τ).loc Cert.AttentionReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ r.2.sem = fun _ => 0)

def quiescent_AttentionIdeal_pre_finite_inputs_AttentionIdeal [hAttentionIdeal : Cert.AttentionIdeal.Facts] [hPre_finite_inputs_AttentionIdeal : Cert.Pre_finite_inputs_AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_inputs_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3))
      ∧ r.2.sem = fun _ => 0)

def quiescent_AttentionReferenceIdeal_pre_finite_inputs_AttentionReferenceIdeal [hAttentionReferenceIdeal : Cert.AttentionReferenceIdeal.Facts] [hPre_finite_inputs_AttentionReferenceIdeal : Cert.Pre_finite_inputs_AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal_finite_inputs_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def preserves_Attention_AttentionIdeal : Prop :=
  True

def algebraic_AttentionIdeal_AttentionReferenceIdeal_pre_finite_inputs_AttentionIdeal [hAttentionIdeal : Cert.AttentionIdeal.Facts] [hAttentionReferenceIdeal : Cert.AttentionReferenceIdeal.Facts] [hPre_finite_inputs_AttentionIdeal : Cert.Pre_finite_inputs_AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal_finite_inputs_AttentionIdeal m →
    (∀ c : Dev Cert.AttentionIdeal.nD,
      m ((c.tc : Thread Cert.AttentionIdeal.nD Cert.AttentionIdeal.τ).loc Cert.AttentionIdeal.main_arg0) = m' (((0 : Dev Cert.AttentionReferenceIdeal.nD).tc : Thread Cert.AttentionReferenceIdeal.nD Cert.AttentionReferenceIdeal.τ).loc Cert.AttentionReferenceIdeal.main_arg0)
      ∧ m ((c.tc : Thread Cert.AttentionIdeal.nD Cert.AttentionIdeal.τ).loc Cert.AttentionIdeal.main_arg1) = Layout.block ⟨2, ![1024, 1024]⟩ ⟨2, ![1024, 8192]⟩ 1 8 c (m' (((0 : Dev Cert.AttentionReferenceIdeal.nD).tc : Thread Cert.AttentionReferenceIdeal.nD Cert.AttentionReferenceIdeal.τ).loc Cert.AttentionReferenceIdeal.main_arg1))
      ∧ m ((c.tc : Thread Cert.AttentionIdeal.nD Cert.AttentionIdeal.τ).loc Cert.AttentionIdeal.main_arg2) = Layout.block ⟨4, ![1, 2048, 8, 128]⟩ ⟨4, ![1, 2048, 64, 128]⟩ 2 8 c (m' (((0 : Dev Cert.AttentionReferenceIdeal.nD).tc : Thread Cert.AttentionReferenceIdeal.nD Cert.AttentionReferenceIdeal.τ).loc Cert.AttentionReferenceIdeal.main_arg2))
      ∧ m ((c.tc : Thread Cert.AttentionIdeal.nD Cert.AttentionIdeal.τ).loc Cert.AttentionIdeal.main_arg3) = Layout.block ⟨4, ![1, 2048, 8, 128]⟩ ⟨4, ![1, 2048, 64, 128]⟩ 2 8 c (m' (((0 : Dev Cert.AttentionReferenceIdeal.nD).tc : Thread Cert.AttentionReferenceIdeal.nD Cert.AttentionReferenceIdeal.τ).loc Cert.AttentionReferenceIdeal.main_arg3))) →
    ∃ (v0 : Buf (Elt Ideal) (((0 : Dev Cert.AttentionReferenceIdeal.nD).tc : Thread Cert.AttentionReferenceIdeal.nD Cert.AttentionReferenceIdeal.τ).loc Cert.AttentionReferenceIdeal.main_v38)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v15) = Layout.block ⟨4, ![8, 4, 64, 1024]⟩ ⟨4, ![8, 4, 64, 8192]⟩ 3 8 c v0
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ θ_run (Cert.AttentionReferenceIdeal.defs (F := Ideal)) (onTc (τ := Cert.AttentionReferenceIdeal.τ) (Cert.AttentionReferenceIdeal.main (F := Ideal))) ⟨m', fun _ => 0, g'⟩ (fun r =>
          r.2.mem (((0 : Dev Cert.AttentionReferenceIdeal.nD).tc : Thread Cert.AttentionReferenceIdeal.nD Cert.AttentionReferenceIdeal.τ).loc Cert.AttentionReferenceIdeal.main_v38) = v0
          ∧ r.2.mem (((0 : Dev Cert.AttentionReferenceIdeal.nD).tc : Thread Cert.AttentionReferenceIdeal.nD Cert.AttentionReferenceIdeal.τ).loc Cert.AttentionReferenceIdeal.main_arg0) = m' (((0 : Dev Cert.AttentionReferenceIdeal.nD).tc : Thread Cert.AttentionReferenceIdeal.nD Cert.AttentionReferenceIdeal.τ).loc Cert.AttentionReferenceIdeal.main_arg0)
          ∧ r.2.mem (((0 : Dev Cert.AttentionReferenceIdeal.nD).tc : Thread Cert.AttentionReferenceIdeal.nD Cert.AttentionReferenceIdeal.τ).loc Cert.AttentionReferenceIdeal.main_arg1) = m' (((0 : Dev Cert.AttentionReferenceIdeal.nD).tc : Thread Cert.AttentionReferenceIdeal.nD Cert.AttentionReferenceIdeal.τ).loc Cert.AttentionReferenceIdeal.main_arg1)
          ∧ r.2.mem (((0 : Dev Cert.AttentionReferenceIdeal.nD).tc : Thread Cert.AttentionReferenceIdeal.nD Cert.AttentionReferenceIdeal.τ).loc Cert.AttentionReferenceIdeal.main_arg2) = m' (((0 : Dev Cert.AttentionReferenceIdeal.nD).tc : Thread Cert.AttentionReferenceIdeal.nD Cert.AttentionReferenceIdeal.τ).loc Cert.AttentionReferenceIdeal.main_arg2)
          ∧ r.2.mem (((0 : Dev Cert.AttentionReferenceIdeal.nD).tc : Thread Cert.AttentionReferenceIdeal.nD Cert.AttentionReferenceIdeal.τ).loc Cert.AttentionReferenceIdeal.main_arg3) = m' (((0 : Dev Cert.AttentionReferenceIdeal.nD).tc : Thread Cert.AttentionReferenceIdeal.nD Cert.AttentionReferenceIdeal.τ).loc Cert.AttentionReferenceIdeal.main_arg3))

def Claim : Prop :=
  ∃ (hKernel : Cert.Kernel.Facts) (hKernelIdeal : Cert.KernelIdeal.Facts) (hReferenceIdeal : Cert.ReferenceIdeal.Facts) (hAttention : Cert.Attention.Facts) (hAttentionIdeal : Cert.AttentionIdeal.Facts) (hAttentionReferenceIdeal : Cert.AttentionReferenceIdeal.Facts) (hPre_finite_inputs_AttentionIdeal : Cert.Pre_finite_inputs_AttentionIdeal.Facts) (hPre_finite_inputs_AttentionReferenceIdeal : Cert.Pre_finite_inputs_AttentionReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Attention (hAttention := hAttention)
    ∧ quiescent_AttentionIdeal (hAttentionIdeal := hAttentionIdeal)
    ∧ quiescent_AttentionIdeal_pre_finite_inputs_AttentionIdeal (hAttentionIdeal := hAttentionIdeal) (hPre_finite_inputs_AttentionIdeal := hPre_finite_inputs_AttentionIdeal)
    ∧ quiescent_AttentionReferenceIdeal (hAttentionReferenceIdeal := hAttentionReferenceIdeal)
    ∧ quiescent_AttentionReferenceIdeal_pre_finite_inputs_AttentionReferenceIdeal (hAttentionReferenceIdeal := hAttentionReferenceIdeal) (hPre_finite_inputs_AttentionReferenceIdeal := hPre_finite_inputs_AttentionReferenceIdeal)
    ∧ preserves_Kernel_KernelIdeal
    ∧ algebraic_KernelIdeal_ReferenceIdeal (hKernelIdeal := hKernelIdeal) (hReferenceIdeal := hReferenceIdeal)
    ∧ preserves_Attention_AttentionIdeal
    ∧ algebraic_AttentionIdeal_AttentionReferenceIdeal_pre_finite_inputs_AttentionIdeal (hAttentionIdeal := hAttentionIdeal) (hAttentionReferenceIdeal := hAttentionReferenceIdeal) (hPre_finite_inputs_AttentionIdeal := hPre_finite_inputs_AttentionIdeal)
-- ==== Pre_finite_inputs_AttentionIdeal.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_

variable [Facts]

def fn {F : FTy → Type} [FloatOps F] (main_arg0 : FVec F S1x2048x1024 .f32) (main_arg1 : FVec F S1024x1024 .f32) (main_arg2 : FVec F S1x2048x8x128 .f32) (main_arg3 : FVec F S1x2048x8x128 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x8x128 .f32 := Host.absf main_arg2
  let main_cst_2 : FVec F S_ .f32 := constant S_ .f32 0x7F800000#32
  let main_v10 : FVec F S1x2048x8x128 .f32 := broadcastInDim S1x2048x8x128 ![] bcast_S_S1x2048x8x128 main_cst_2
  let main_v11 : IVec S1x2048x8x128 1 := cmpf .olt main_v9 main_v10
  let main_c_3 : IVec S_ 1 := constantI S_ 1 1#1
  let main_v12 : IVec S_ 1 := (fun x v => Host.reduce IntOp.andi x v reducesTo_S1x2048x8x128_S_d0_1_2_3 h_S_) main_v11 main_c_3
  let main_v13 : IVec S_ 1 := andi main_v8 main_v12
  main_v13
-- ==== Pre_finite_inputs_AttentionReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x2048x64x128 : S_.BroadcastsInDim S1x2048x64x128 (![] : Fin 0 → Fin S1x2048x64x128.rank)
  reducesTo_S1x2048x64x128_S_d0_1_2_3 : S1x2048x64x128.ReducesTo [0, 1, 2, 3] S_

variable [Facts]

def fn {F : FTy → Type} [FloatOps F] (main_arg0 : FVec F S1x2048x1024 .f32) (main_arg1 : FVec F S1024x8192 .f32) (main_arg2 : FVec F S1x2048x64x128 .f32) (main_arg3 : FVec F S1x2048x64x128 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x2048x64x128 .f32 := Host.absf main_arg2
  let main_cst_2 : FVec F S_ .f32 := constant S_ .f32 0x7F800000#32
  let main_v10 : FVec F S1x2048x64x128 .f32 := broadcastInDim S1x2048x64x128 ![] bcast_S_S1x2048x64x128 main_cst_2
  let main_v11 : IVec S1x2048x64x128 1 := cmpf .olt main_v9 main_v10
  let main_c_3 : IVec S_ 1 := constantI S_ 1 1#1
  let main_v12 : IVec S_ 1 := (fun x v => Host.reduce IntOp.andi x v reducesTo_S1x2048x64x128_S_d0_1_2_3 h_S_) main_v11 main_c_3
  let main_v13 : IVec S_ 1 := andi main_v8 main_v12
  main_v13
-- ==== Kernel.lean ====
abbrev S2048x1024 : Shape := ⟨2, ![2048, 1024]⟩
abbrev S8192x1024 : Shape := ⟨2, ![8192, 1024]⟩
abbrev S_ : Shape := ⟨0, ![]⟩
abbrev S1024x1024 : Shape := ⟨2, ![1024, 1024]⟩
abbrev S8x256x512 : Shape := ⟨3, ![8, 256, 512]⟩
abbrev S7x2x2 : Shape := ⟨3, ![7, 2, 2]⟩
abbrev S7x2 : Shape := ⟨2, ![7, 2]⟩
abbrev S256x1024 : Shape := ⟨2, ![256, 1024]⟩
abbrev S256x512 : Shape := ⟨2, ![256, 512]⟩
abbrev S1x256x512 : Shape := ⟨3, ![1, 256, 512]⟩
abbrev S1x1x1 : Shape := ⟨3, ![1, 1, 1]⟩
abbrev S1x1 : Shape := ⟨2, ![1, 1]⟩
abbrev S1x2048x1024 : Shape := ⟨3, ![1, 2048, 1024]⟩

abbrev nBuf : Space → Nat
  | .hbm => 21
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S8192x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1024x1024, .f32⟩
  | .hbm, ⟨19, _⟩ => ⟨S2048x1024, .f32⟩
  | .hbm, ⟨20, _⟩ => ⟨S1x2048x1024, .f32⟩
  | .local _ .vmem, ⟨0, _⟩ => ⟨S2048x1024, .f32⟩
  | .local _ .vmem, ⟨1, _⟩ => ⟨S1024x1024, .f32⟩
  | .local _ .vmem, ⟨2, _⟩ => ⟨S2048x1024, .f32⟩
  | .local _ .vmem, ⟨3, _⟩ => ⟨S8x256x512, .f32⟩
  | .local _ .vmem, ⟨4, _⟩ => ⟨S8x256x512, .f32⟩
  | .local _ .vmem, ⟨5, _⟩ => ⟨S8x256x512, .f32⟩
  | .local _ .vmem, ⟨6, _⟩ => ⟨S8x256x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 1 59 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_c_2 : Ref sig .tc := ⟨.hbm, 10, rfl⟩
abbrev main_v6 : Ref sig .tc := ⟨.hbm, 11, rfl⟩
abbrev main_c_3 : Ref sig .tc := ⟨.hbm, 12, rfl⟩
abbrev main_v7 : Ref sig .tc := ⟨.hbm, 13, rfl⟩
abbrev main_c_4 : Ref sig .tc := ⟨.hbm, 14, rfl⟩
abbrev main_v8 : Ref sig .tc := ⟨.hbm, 15, rfl⟩
abbrev main_v9 : Ref sig .tc := ⟨.hbm, 16, rfl⟩
abbrev main_c_5 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_8 : BitVec 32 := 1#32
  let v11 : BitVec 32 := Scalar.muli v4 c1_i32_8
  let v12 : BitVec 32 := Scalar.addi c0_i32_9 v11
  v12.toNat
def k0_off1 (d0 : Dev nD) (c0_i32_10 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v13 : BitVec 32 := Scalar.subi v2 c0_i32_10
  let c8_i32_11 : BitVec 32 := 8#32
  let v14 : BitVec 32 := Scalar.addi v13 c8_i32_11
  let c8_i32_12 : BitVec 32 := 8#32
  let v15 : BitVec 32 := Scalar.remsi v14 c8_i32_12
  let c256_i32 : BitVec 32 := 256#32
  let v16 : BitVec 32 := Scalar.muli v15 c256_i32
  let v17 : Index := Scalar.indexCast v16
  let c0 : Index := 0#32
  ![v17.toNat, 0]
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_25 : BitVec 32 := 1#32
  let v31 : BitVec 32 := Scalar.muli v4 c1_i32_25
  let v32 : BitVec 32 := Scalar.addi c0_i32_26 v31
  v32.toNat
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_38 : BitVec 32 := 1#32
  let v41 : BitVec 32 := Scalar.muli v7 c1_i32_38
  let v42 : BitVec 32 := Scalar.addi c0_i32_39 v41
  v42.toNat
def k0_dev5 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_145 : BitVec 32 := 1#32
  let v131 : BitVec 32 := Scalar.muli v4 c1_i32_145
  let v132 : BitVec 32 := Scalar.addi c0_i32_146 v131
  v132.toNat
def k0_dev6 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_158 : BitVec 32 := 1#32
  let v141 : BitVec 32 := Scalar.muli v7 c1_i32_158
  let v142 : BitVec 32 := Scalar.addi c0_i32_159 v141
  v142.toNat
def k0_dev7 (d0 : Dev nD) : Nat :=
  let c0_i32_265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_264 : BitVec 32 := 1#32
  let v231 : BitVec 32 := Scalar.muli v4 c1_i32_264
  let v232 : BitVec 32 := Scalar.addi c0_i32_265 v231
  v232.toNat
def k0_dev8 (d0 : Dev nD) : Nat :=
  let c0_i32_278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_277 : BitVec 32 := 1#32
  let v241 : BitVec 32 := Scalar.muli v7 c1_i32_277
  let v242 : BitVec 32 := Scalar.addi c0_i32_278 v241
  v242.toNat
def k0_dev9 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_383 : BitVec 32 := 1#32
  let v331 : BitVec 32 := Scalar.muli v4 c1_i32_383
  let v332 : BitVec 32 := Scalar.addi c0_i32_384 v331
  v332.toNat
def k0_dev10 (d0 : Dev nD) : Nat :=
  let c0_i32_397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_396 : BitVec 32 := 1#32
  let v341 : BitVec 32 := Scalar.muli v7 c1_i32_396
  let v342 : BitVec 32 := Scalar.addi c0_i32_397 v341
  v342.toNat
def k0_dev11 (d0 : Dev nD) : Nat :=
  let c0_i32_491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_490 : BitVec 32 := 1#32
  let v413 : BitVec 32 := Scalar.muli v4 c1_i32_490
  let v414 : BitVec 32 := Scalar.addi c0_i32_491 v413
  v414.toNat
def k0_dev12 (d0 : Dev nD) : Nat :=
  let c0_i32_504 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_503 : BitVec 32 := 1#32
  let v423 : BitVec 32 := Scalar.muli v7 c1_i32_503
  let v424 : BitVec 32 := Scalar.addi c0_i32_504 v423
  v424.toNat
def k0_dev13 (d0 : Dev nD) : Nat :=
  let c0_i32_585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_584 : BitVec 32 := 1#32
  let v477 : BitVec 32 := Scalar.muli v4 c1_i32_584
  let v478 : BitVec 32 := Scalar.addi c0_i32_585 v477
  v478.toNat
def k0_dev14 (d0 : Dev nD) : Nat :=
  let c0_i32_598 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_597 : BitVec 32 := 1#32
  let v487 : BitVec 32 := Scalar.muli v7 c1_i32_597
  let v488 : BitVec 32 := Scalar.addi c0_i32_598 v487
  v488.toNat
def k0_dev15 (d0 : Dev nD) : Nat :=
  let c0_i32_679 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_678 : BitVec 32 := 1#32
  let v541 : BitVec 32 := Scalar.muli v4 c1_i32_678
  let v542 : BitVec 32 := Scalar.addi c0_i32_679 v541
  v542.toNat
def k0_dev16 (d0 : Dev nD) : Nat :=
  let c0_i32_692 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_691 : BitVec 32 := 1#32
  let v551 : BitVec 32 := Scalar.muli v7 c1_i32_691
  let v552 : BitVec 32 := Scalar.addi c0_i32_692 v551
  v552.toNat
def k0_off2 (d0 : Dev nD) (c0_i32_766 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_765 : BitVec 32 := 1#32
  let v605 : BitVec 32 := Scalar.addi v2 c1_i32_765
  let v606 : BitVec 32 := Scalar.subi v605 c0_i32_766
  let c8_i32_767 : BitVec 32 := 8#32
  let v607 : BitVec 32 := Scalar.addi v606 c8_i32_767
  let c8_i32_768 : BitVec 32 := 8#32
  let v608 : BitVec 32 := Scalar.remsi v607 c8_i32_768
  let c256_i32_773 : BitVec 32 := 256#32
  let v613 : BitVec 32 := Scalar.muli v608 c256_i32_773
  let c0_i32_783 : BitVec 32 := 0#32
  ![v613.toNat, 0]
def k0_dev17 (d0 : Dev nD) : Nat :=
  let c0_i32_782 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_781 : BitVec 32 := 1#32
  let v615 : BitVec 32 := Scalar.muli v4 c1_i32_781
  let v616 : BitVec 32 := Scalar.addi c0_i32_782 v615
  v616.toNat
def k0_off3 (d0 : Dev nD) (c0_i32_770 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_769 : BitVec 32 := 1#32
  let v609 : BitVec 32 := Scalar.subi v2 c1_i32_769
  let v610 : BitVec 32 := Scalar.addi v609 c0_i32_770
  let c8_i32_771 : BitVec 32 := 8#32
  let v611 : BitVec 32 := Scalar.addi v610 c8_i32_771
  let c8_i32_772 : BitVec 32 := 8#32
  let v612 : BitVec 32 := Scalar.remsi v611 c8_i32_772
  let c256_i32_774 : BitVec 32 := 256#32
  let v614 : BitVec 32 := Scalar.muli v612 c256_i32_774
  let c512_i32 : BitVec 32 := 512#32
  ![v614.toNat, 512]
def k0_dev18 (d0 : Dev nD) : Nat :=
  let c0_i32_793 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_792 : BitVec 32 := 1#32
  let v624 : BitVec 32 := Scalar.muli v7 c1_i32_792
  let v625 : BitVec 32 := Scalar.addi c0_i32_793 v624
  v625.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_796 : BitVec 32 := 1#32
  let v633 : BitVec 32 := Scalar.addi v2 c1_i32_796
  let c8_i32_797 : BitVec 32 := 8#32
  let v634 : BitVec 32 := Scalar.remsi v633 c8_i32_797
  let c256_i32_804 : BitVec 32 := 256#32
  let v640 : BitVec 32 := Scalar.muli v634 c256_i32_804
  let v641 : Index := Scalar.indexCast v640
  let c0_805 : Index := 0#32
  ![v641.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_798 : BitVec 32 := 1#32
  let v635 : BitVec 32 := Scalar.subi v2 c1_i32_798
  let c8_i32_799 : BitVec 32 := 8#32
  let v636 : BitVec 32 := Scalar.addi v635 c8_i32_799
  let c8_i32_800 : BitVec 32 := 8#32
  let v637 : BitVec 32 := Scalar.remsi v636 c8_i32_800
  let c256_i32_809 : BitVec 32 := 256#32
  let v645 : BitVec 32 := Scalar.muli v637 c256_i32_809
  let v646 : Index := Scalar.indexCast v645
  let c512 : Index := 512#32
  ![v646.toNat, 512]
def k0_dev19 (d0 : Dev nD) : Nat :=
  let c0_i32_870 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_869 : BitVec 32 := 1#32
  let v684 : BitVec 32 := Scalar.muli v4 c1_i32_869
  let v685 : BitVec 32 := Scalar.addi c0_i32_870 v684
  v685.toNat
def k0_dev20 (d0 : Dev nD) : Nat :=
  let c0_i32_879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_878 : BitVec 32 := 1#32
  let v692 : BitVec 32 := Scalar.muli v7 c1_i32_878
  let v693 : BitVec 32 := Scalar.addi c0_i32_879 v692
  v693.toNat
def k0_dev21 (d0 : Dev nD) : Nat :=
  let c0_i32_934 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_933 : BitVec 32 := 1#32
  let v732 : BitVec 32 := Scalar.muli v4 c1_i32_933
  let v733 : BitVec 32 := Scalar.addi c0_i32_934 v732
  v733.toNat
def k0_dev22 (d0 : Dev nD) : Nat :=
  let c0_i32_943 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_942 : BitVec 32 := 1#32
  let v740 : BitVec 32 := Scalar.muli v7 c1_i32_942
  let v741 : BitVec 32 := Scalar.addi c0_i32_943 v740
  v741.toNat
def k0_dev23 (d0 : Dev nD) : Nat :=
  let c0_i32_998 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_997 : BitVec 32 := 1#32
  let v780 : BitVec 32 := Scalar.muli v4 c1_i32_997
  let v781 : BitVec 32 := Scalar.addi c0_i32_998 v780
  v781.toNat
def k0_dev24 (d0 : Dev nD) : Nat :=
  let c0_i32_1007 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1006 : BitVec 32 := 1#32
  let v788 : BitVec 32 := Scalar.muli v7 c1_i32_1006
  let v789 : BitVec 32 := Scalar.addi c0_i32_1007 v788
  v789.toNat
def k0_dev25 (d0 : Dev nD) : Nat :=
  let c0_i32_1062 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1061 : BitVec 32 := 1#32
  let v828 : BitVec 32 := Scalar.muli v4 c1_i32_1061
  let v829 : BitVec 32 := Scalar.addi c0_i32_1062 v828
  v829.toNat
def k0_dev26 (d0 : Dev nD) : Nat :=
  let c0_i32_1071 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1070 : BitVec 32 := 1#32
  let v836 : BitVec 32 := Scalar.muli v7 c1_i32_1070
  let v837 : BitVec 32 := Scalar.addi c0_i32_1071 v836
  v837.toNat
def k0_dev27 (d0 : Dev nD) : Nat :=
  let c0_i32_1126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1125 : BitVec 32 := 1#32
  let v876 : BitVec 32 := Scalar.muli v4 c1_i32_1125
  let v877 : BitVec 32 := Scalar.addi c0_i32_1126 v876
  v877.toNat
def k0_dev28 (d0 : Dev nD) : Nat :=
  let c0_i32_1135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1134 : BitVec 32 := 1#32
  let v884 : BitVec 32 := Scalar.muli v7 c1_i32_1134
  let v885 : BitVec 32 := Scalar.addi c0_i32_1135 v884
  v885.toNat
def k0_dev29 (d0 : Dev nD) : Nat :=
  let c0_i32_1190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1189 : BitVec 32 := 1#32
  let v924 : BitVec 32 := Scalar.muli v4 c1_i32_1189
  let v925 : BitVec 32 := Scalar.addi c0_i32_1190 v924
  v925.toNat
def k0_dev30 (d0 : Dev nD) : Nat :=
  let c0_i32_1199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1198 : BitVec 32 := 1#32
  let v932 : BitVec 32 := Scalar.muli v7 c1_i32_1198
  let v933 : BitVec 32 := Scalar.addi c0_i32_1199 v932
  v933.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x8192 : Shape := ⟨2, ![2048, 8192]⟩
abbrev S8192x1024 : Shape := ⟨2, ![8192, 1024]⟩
abbrev S2048x1024 : Shape := ⟨2, ![2048, 1024]⟩
abbrev S1x2048x1024 : Shape := ⟨3, ![1, 2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x1024, .f32⟩
  | .hbm, ⟨2, _⟩ => ⟨S2048x1024, .f32⟩
  | .hbm, ⟨3, _⟩ => ⟨S1x2048x1024, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Attention.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S2048x1024 : Shape := ⟨2, ![2048, 1024]⟩
abbrev S2048x8x128 : Shape := ⟨3, ![2048, 8, 128]⟩
abbrev S8x4x64x8x128 : Shape := ⟨5, ![8, 4, 64, 8, 128]⟩
abbrev S4x8x8x64x128 : Shape := ⟨5, ![4, 8, 8, 64, 128]⟩
abbrev S4x8x512x128 : Shape := ⟨4, ![4, 8, 512, 128]⟩
abbrev S8x4x64x1024 : Shape := ⟨4, ![8, 4, 64, 1024]⟩
abbrev S1x8x512x128 : Shape := ⟨4, ![1, 8, 512, 128]⟩
abbrev S8x1x64x1024 : Shape := ⟨4, ![8, 1, 64, 1024]⟩
abbrev S8x512x128 : Shape := ⟨3, ![8, 512, 128]⟩
abbrev S8x512x512 : Shape := ⟨3, ![8, 512, 512]⟩
abbrev S8x512 : Shape := ⟨2, ![8, 512]⟩
abbrev S8x512x1 : Shape := ⟨3, ![8, 512, 1]⟩
abbrev S512x8x128 : Shape := ⟨3, ![512, 8, 128]⟩

abbrev nBuf : Space → Nat
  | .hbm => 19
  | .vmem => 8
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x2048x8x128, .f32⟩
  | .hbm, ⟨3, _⟩ => ⟨S1x2048x8x128, .f32⟩
  | .hbm, ⟨4, _⟩ => ⟨S2048x1024, .f32⟩
  | .hbm, ⟨5, _⟩ => ⟨S2048x1024, .f32⟩
  | .hbm, ⟨6, _⟩ => ⟨S2048x8x128, .f32⟩
  | .hbm, ⟨7, _⟩ => ⟨S8x4x64x8x128, .f32⟩
  | .hbm, ⟨8, _⟩ => ⟨S4x8x8x64x128, .f32⟩
  | .hbm, ⟨9, _⟩ => ⟨S4x8x512x128, .f32⟩
  | .hbm, ⟨10, _⟩ => ⟨S2048x8x128, .f32⟩
  | .hbm, ⟨11, _⟩ => ⟨S8x4x64x8x128, .f32⟩
  | .hbm, ⟨12, _⟩ => ⟨S4x8x8x64x128, .f32⟩
  | .hbm, ⟨13, _⟩ => ⟨S4x8x512x128, .f32⟩
  | .hbm, ⟨14, _⟩ => ⟨S2048x8x128, .f32⟩
  | .hbm, ⟨15, _⟩ => ⟨S8x4x64x8x128, .f32⟩
  | .hbm, ⟨16, _⟩ => ⟨S4x8x8x64x128, .f32⟩
  | .hbm, ⟨17, _⟩ => ⟨S4x8x512x128, .f32⟩
  | .hbm, ⟨18, _⟩ => ⟨S8x4x64x1024, .f32⟩
  | .local _ .vmem, ⟨0, _⟩ => ⟨S1x8x512x128, .f32⟩
  | .local _ .vmem, ⟨1, _⟩ => ⟨S1x8x512x128, .f32⟩
  | .local _ .vmem, ⟨2, _⟩ => ⟨S1x8x512x128, .f32⟩
  | .local _ .vmem, ⟨3, _⟩ => ⟨S1x8x512x128, .f32⟩
  | .local _ .vmem, ⟨4, _⟩ => ⟨S1x8x512x128, .f32⟩
  | .local _ .vmem, ⟨5, _⟩ => ⟨S1x8x512x128, .f32⟩
  | .local _ .vmem, ⟨6, _⟩ => ⟨S8x1x64x1024, .f32⟩
  | .local _ .vmem, ⟨7, _⟩ => ⟨S8x1x64x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 8
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttentionReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S1x2048x8192 : Shape := ⟨3, ![1, 2048, 8192]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x64x2048x2048 : Shape := ⟨4, ![1, 64, 2048, 2048]⟩
abbrev S1x1x2048x2048 : Shape := ⟨4, ![1, 1, 2048, 2048]⟩
abbrev S1x64x2048 : Shape := ⟨3, ![1, 64, 2048]⟩
abbrev S1x64x2048x1 : Shape := ⟨4, ![1, 64, 2048, 1]⟩
abbrev S1x1x2048x1 : Shape := ⟨4, ![1, 1, 2048, 1]⟩
abbrev S1x64x128x2048 : Shape := ⟨4, ![1, 64, 128, 2048]⟩
abbrev S8x4x64x8192 : Shape := ⟨4, ![8, 4, 64, 8192]⟩

abbrev nBuf : Space → Nat
  | .hbm => 135
  | .vmem => 0
  | .smem => 0
  | _ => 0

abbrev hbmTy0_0 (i : Nat) : BufTy := match i % 128 with
  | 0 => ⟨S1x2048x1024, .f32⟩
  | 1 => ⟨S1024x8192, .f32⟩
  | 2 => ⟨S1x2048x64x128, .f32⟩
  | 3 => ⟨S1x2048x64x128, .f32⟩
  | 4 => ⟨S1x2048x8192, .f32⟩
  | 5 => ⟨S1x2048x64x128, .f32⟩
  | 6 => ⟨S2048, .i32⟩
  | 7 => ⟨S_, .i32⟩
  | 8 => ⟨S_, .i32⟩
  | 9 => ⟨S2048, .i32⟩
  | 10 => ⟨S2048, .i32⟩
  | 11 => ⟨S2048, .i32⟩
  | 12 => ⟨S_, .i32⟩
  | 13 => ⟨S2048, .i32⟩
  | 14 => ⟨S2048, .i1⟩
  | 15 => ⟨S2048, .i32⟩
  | 16 => ⟨S2048, .i32⟩
  | 17 => ⟨S_, .i32⟩
  | 18 => ⟨S2048, .i32⟩
  | 19 => ⟨S2048, .i1⟩
  | 20 => ⟨S2048, .i1⟩
  | 21 => ⟨S_, .i32⟩
  | 22 => ⟨S2048, .i32⟩
  | 23 => ⟨S2048, .i32⟩
  | 24 => ⟨S2048, .i32⟩
  | 25 => ⟨S2048x1, .i32⟩
  | 26 => ⟨S2048, .i32⟩
  | 27 => ⟨S_, .i32⟩
  | 28 => ⟨S_, .i32⟩
  | 29 => ⟨S2048, .i32⟩
  | 30 => ⟨S2048, .i32⟩
  | 31 => ⟨S2048, .i32⟩
  | 32 => ⟨S_, .i32⟩
  | 33 => ⟨S2048, .i32⟩
  | 34 => ⟨S2048, .i1⟩
  | 35 => ⟨S2048, .i32⟩
  | 36 => ⟨S2048, .i32⟩
  | 37 => ⟨S_, .i32⟩
  | 38 => ⟨S2048, .i32⟩
  | 39 => ⟨S2048, .i1⟩
  | 40 => ⟨S2048, .i1⟩
  | 41 => ⟨S_, .i32⟩
  | 42 => ⟨S2048, .i32⟩
  | 43 => ⟨S2048, .i32⟩
  | 44 => ⟨S2048, .i32⟩
  | 45 => ⟨S1x2048, .i32⟩
  | 46 => ⟨S2048x2048, .i32⟩
  | 47 => ⟨S2048x2048, .i32⟩
  | 48 => ⟨S2048x2048, .i1⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S1x2048, .i32⟩
  | 56 => ⟨S1x2048, .i32⟩
  | 57 => ⟨S_, .i32⟩
  | 58 => ⟨S1x2048, .i32⟩
  | 59 => ⟨S1x2048, .i1⟩
  | 60 => ⟨S_, .i32⟩
  | 61 => ⟨S1x2048, .i32⟩
  | 62 => ⟨S1x2048, .i1⟩
  | 63 => ⟨S_, .i32⟩
  | 64 => ⟨S_, .i1⟩
  | 65 => ⟨S1x2048, .i1⟩
  | 66 => ⟨S1x2048, .i1⟩
  | 67 => ⟨S1x2048, .i1⟩
  | 68 => ⟨S1x2048, .i32⟩
  | 69 => ⟨S1x2048, .i32⟩
  | 70 => ⟨S1x2048, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S2048x1, .i32⟩
  | 78 => ⟨S2048x1, .i32⟩
  | 79 => ⟨S_, .i32⟩
  | 80 => ⟨S2048x1, .i32⟩
  | 81 => ⟨S2048x1, .i1⟩
  | 82 => ⟨S_, .i32⟩
  | 83 => ⟨S2048x1, .i32⟩
  | 84 => ⟨S2048x1, .i1⟩
  | 85 => ⟨S_, .i32⟩
  | 86 => ⟨S_, .i1⟩
  | 87 => ⟨S2048x1, .i1⟩
  | 88 => ⟨S2048x1, .i1⟩
  | 89 => ⟨S2048x1, .i1⟩
  | 90 => ⟨S2048x1, .i32⟩
  | 91 => ⟨S2048x1, .i32⟩
  | 92 => ⟨S2048x1, .i32⟩
  | 93 => ⟨S2048x2048, .i32⟩
  | 94 => ⟨S2048x2048, .i32⟩
  | 95 => ⟨S2048x2048, .i1⟩
  | 96 => ⟨S2048x2048, .i1⟩
  | 97 => ⟨S1x64x2048x2048, .f32⟩
  | 98 => ⟨S_, .f32⟩
  | 99 => ⟨S1x64x2048x2048, .f32⟩
  | 100 => ⟨S1x64x2048x2048, .f32⟩
  | 101 => ⟨S1x1x2048x2048, .i1⟩
  | 102 => ⟨S_, .f32⟩
  | 103 => ⟨S_, .f32⟩
  | 104 => ⟨S1x64x2048x2048, .i1⟩
  | 105 => ⟨S1x64x2048x2048, .f32⟩
  | 106 => ⟨S1x64x2048x2048, .f32⟩
  | 107 => ⟨S_, .f32⟩
  | 108 => ⟨S1x64x2048, .f32⟩
  | 109 => ⟨S1x64x2048x1, .f32⟩
  | 110 => ⟨S1x64x2048x2048, .f32⟩
  | 111 => ⟨S1x64x2048x2048, .f32⟩
  | 112 => ⟨S1x64x2048x2048, .f32⟩
  | 113 => ⟨S_, .i1⟩
  | 114 => ⟨S2048, .i1⟩
  | 115 => ⟨S1x1x2048x1, .i1⟩
  | 116 => ⟨S_, .f32⟩
  | 117 => ⟨S1x64x2048, .f32⟩
  | 118 => ⟨S1x64x2048x1, .f32⟩
  | 119 => ⟨S_, .f32⟩
  | 120 => ⟨S_, .f32⟩
  | 121 => ⟨S1x64x2048x1, .i1⟩
  | 122 => ⟨S1x64x2048x1, .f32⟩
  | 123 => ⟨S1x64x2048x1, .f32⟩
  | 124 => ⟨S1x64x2048x2048, .f32⟩
  | 125 => ⟨S1x64x2048x2048, .f32⟩
  | 126 => ⟨S1x1x2048x1, .i1⟩
  | 127 => ⟨S_, .f32⟩
  | _ => ⟨S1x2048x1024, .f32⟩

abbrev hbmTy0_1 (i : Nat) : BufTy := match i % 128 with
  | 0 => ⟨S_, .f32⟩
  | 1 => ⟨S1x64x2048x2048, .i1⟩
  | 2 => ⟨S1x64x2048x2048, .f32⟩
  | 3 => ⟨S1x64x2048x2048, .f32⟩
  | 4 => ⟨S1x64x128x2048, .f32⟩
  | 5 => ⟨S1x2048x64x128, .f32⟩
  | 6 => ⟨S8x4x64x8192, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_c_1 : Ref sig .tc := ⟨.hbm, 49, rfl⟩
abbrev main_call2_v0 : Ref sig .tc := ⟨.hbm, 50, rfl⟩
abbrev main_call2_c : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_c_1 : Ref sig .tc := ⟨.hbm, 57, rfl⟩
abbrev main_call2_v5 : Ref sig .tc := ⟨.hbm, 58, rfl⟩
abbrev main_call2_v6 : Ref sig .tc := ⟨.hbm, 59, rfl⟩
abbrev main_call2_c_2 : Ref sig .tc := ⟨.hbm, 60, rfl⟩
abbrev main_call2_v7 : Ref sig .tc := ⟨.hbm, 61, rfl⟩
abbrev main_call2_v8 : Ref sig .tc := ⟨.hbm, 62, rfl⟩
abbrev main_call2_c_3 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_v12 : Ref sig .tc := ⟨.hbm, 67, rfl⟩
abbrev main_call2_v13 : Ref sig .tc := ⟨.hbm, 68, rfl⟩
abbrev main_call2_v14 : Ref sig .tc := ⟨.hbm, 69, rfl⟩
abbrev main_v11 : Ref sig .tc := ⟨.hbm, 70, rfl⟩
abbrev main_c_2 : Ref sig .tc := ⟨.hbm, 71, rfl⟩
abbrev main_call3_v0 : Ref sig .tc := ⟨.hbm, 72, rfl⟩
abbrev main_call3_c : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_c_1 : Ref sig .tc := ⟨.hbm, 79, rfl⟩
abbrev main_call3_v5 : Ref sig .tc := ⟨.hbm, 80, rfl⟩
abbrev main_call3_v6 : Ref sig .tc := ⟨.hbm, 81, rfl⟩
abbrev main_call3_c_2 : Ref sig .tc := ⟨.hbm, 82, rfl⟩
abbrev main_call3_v7 : Ref sig .tc := ⟨.hbm, 83, rfl⟩
abbrev main_call3_v8 : Ref sig .tc := ⟨.hbm, 84, rfl⟩
abbrev main_call3_c_3 : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_v12 : Ref sig .tc := ⟨.hbm, 89, rfl⟩
abbrev main_call3_v13 : Ref sig .tc := ⟨.hbm, 90, rfl⟩
abbrev main_call3_v14 : Ref sig .tc := ⟨.hbm, 91, rfl⟩
abbrev main_v12 : Ref sig .tc := ⟨.hbm, 92, rfl⟩
abbrev main_v13 : Ref sig .tc := ⟨.hbm, 93, rfl⟩
abbrev main_v14 : Ref sig .tc := ⟨.hbm, 94, rfl⟩
abbrev main_v15 : Ref sig .tc := ⟨.hbm, 95, rfl⟩
abbrev main_v16 : Ref sig .tc := ⟨.hbm, 96, rfl⟩
abbrev main_v17 : Ref sig .tc := ⟨.hbm, 97, rfl⟩
abbrev main_cst : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst_3 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_v21 : Ref sig .tc := ⟨.hbm, 106, rfl⟩
abbrev main_cst_4 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_c_5 : Ref sig .tc := ⟨.hbm, 113, rfl⟩
abbrev main_v27 : Ref sig .tc := ⟨.hbm, 114, rfl⟩
abbrev main_v28 : Ref sig .tc := ⟨.hbm, 115, rfl⟩
abbrev main_cst_6 : Ref sig .tc := ⟨.hbm, 116, rfl⟩
abbrev main_v29 : Ref sig .tc := ⟨.hbm, 117, rfl⟩
abbrev main_v30 : Ref sig .tc := ⟨.hbm, 118, rfl⟩
abbrev main_cst_7 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v31 : Ref sig .tc := ⟨.hbm, 123, rfl⟩
abbrev main_v32 : Ref sig .tc := ⟨.hbm, 124, rfl⟩
abbrev main_v33 : Ref sig .tc := ⟨.hbm, 125, rfl⟩
abbrev main_v34 : Ref sig .tc := ⟨.hbm, 126, rfl⟩
abbrev main_cst_8 : Ref sig .tc := ⟨.hbm, 127, rfl⟩
abbrev main_call6_v0 : Ref sig .tc := ⟨.hbm, 128, rfl⟩
abbrev main_call6_v1 : Ref sig .tc := ⟨.hbm, 129, rfl⟩
abbrev main_call6_v2 : Ref sig .tc := ⟨.hbm, 130, rfl⟩
abbrev main_v35 : Ref sig .tc := ⟨.hbm, 131, rfl⟩
abbrev main_v36 : Ref sig .tc := ⟨.hbm, 132, rfl⟩
abbrev main_v37 : Ref sig .tc := ⟨.hbm, 133, rfl⟩
abbrev main_v38 : Ref sig .tc := ⟨.hbm, 134, rfl⟩

abbrev nD : Nat := 1
abbrev τ : Topo := Topo.v7x

variable {F : FTy → Type} [FloatOps F]
-- ==== Proof.Ring.lean ====
/-
# The ring: places, cells, contents, schedule

The all-reduce of `_outproj_allreduce` on a ring of eight devices, both ways round at once. Direction 0 sends to the
next device and carries the left 512 columns; direction 1 sends to the previous device and carries the right 512.
There are fourteen hops: hops 0 to 6 are the reduce-scatter, hops 7 to 13 the all-gather. Every hop of each direction
has one send cell and one receive cell of its own, used for one round; one barrier cell per device opens the exchange.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic
public import Mathlib.Algebra.BigOperators.Intervals

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩
theorem prv_nxt (c : Dev nD) : prv (nxt c) = c := by revert c; decide
theorem nxt_prv (c : Dev nD) : nxt (prv c) = c := by revert c; decide

/-- The device direction `h` sends to, and the one it receives from. -/
def nb (h : Fin 2) (c : Dev nD) : Dev nD := if h = 0 then nxt c else prv c
def fb (h : Fin 2) (c : Dev nD) : Dev nD := if h = 0 then prv c else nxt c
theorem fb_nb (h : Fin 2) (c : Dev nD) : fb h (nb h c) = c := by revert h c; decide
theorem nb_fb (h : Fin 2) (c : Dev nD) : nb h (fb h c) = c := by revert h c; decide

/-- The chunk of 256 rows that device `c` sends at hop `j` of direction `h`. -/
def ck (h : Fin 2) (c : Dev nD) (j : ℕ) : Fin 8 :=
  ⟨(if h = 0 then c.val + 16 - j % 16 else c.val + j) % 8, Nat.mod_lt _ (by decide)⟩
/-- The device that holds the complete sum of chunk `k` in direction `h`'s half once the reduce-scatter is over. -/
def own (h : Fin 2) (k : Fin 8) : Dev nD := fb h k

theorem ck_fb : ∀ (h : Fin 2) (c : Dev nD), ∀ j < 13, ck h (fb h c) j = ck h c (j + 1) := by decide
theorem own_ck : ∀ (h : Fin 2) (c : Dev nD), own h (ck h c 7) = c := by decide

/-! ## The memrefs -/

abbrev xM : Memref sig .tc .vmem S2048x1024 .f32 := Memref.whole cc0_stg0_0
abbrev wM : Memref sig .tc .vmem S1024x1024 .f32 := Memref.whole cc0_stg1_0
abbrev oM : Memref sig .tc .vmem S2048x1024 .f32 := Memref.whole cc0_stg2_0
/-- The eight slots of partial sums of each direction, and the slots the sums of a neighbour land in. -/
def bufM (h : Fin 2) : Memref sig .tc .vmem S8x256x512 .f32 := if h = 0 then Memref.whole cc0_scratch0 else Memref.whole cc0_scratch1
def comM (h : Fin 2) : Memref sig .tc .vmem S8x256x512 .f32 := if h = 0 then Memref.whole cc0_scratch2 else Memref.whole cc0_scratch3

theorem inbS (k : ℕ) : ∀ a, (![k % 8, 0, 0] : Fin 3 → ℕ) a + S1x256x512.size a ≤ S8x256x512.size a := by
  exact (by decide : ∀ r < 8, ∀ a, (![r, 0, 0] : Fin 3 → ℕ) a + S1x256x512.size a ≤ S8x256x512.size a) (k % 8) (Nat.mod_lt _ (by decide))
theorem inbO (k : Fin 8) (h : Fin 2) : ∀ a, (![256 * k.val, 512 * h.val] : Fin 2 → ℕ) a + S256x512.size a ≤ S2048x1024.size a := by
  revert k h; decide
theorem inbX (k : Fin 8) : ∀ a, (![256 * k.val, 0] : Fin 2 → ℕ) a + S256x1024.size a ≤ S2048x1024.size a := by
  revert k; decide

/-- The rectangle of slot `k` of a buffer of eight slots. -/
def slotR (k : ℕ) : Rect S8x256x512 := Rect.unit (s := S8x256x512) ![k % 8, 0, 0] S1x256x512.size (inbS k)
/-- Slot `k` of a buffer of eight. -/
def slotM (M : Memref sig .tc .vmem S8x256x512 .f32) (k : ℕ) : Memref sig .tc .vmem S256x512 .f32 :=
  (M.slice (Rect.unit (s := S8x256x512) ![k % 8, 0, 0] S1x256x512.size (inbS k)) (fun _ => rfl)).squeeze S256x512 squeezes_S1x256x512_S256x512
/-- Half `h` of chunk `k` of the result. -/
def outM (k : Fin 8) (h : Fin 2) : Memref sig .tc .vmem S256x512 .f32 :=
  oM.slice (Rect.unit (s := S2048x1024) ![256 * k.val, 512 * h.val] S256x512.size (inbO k h)) (fun _ => rfl)

/-- What direction `h` sends from at hop `j`, and what it lands in. -/
def srcM (h : Fin 2) (c : Dev nD) (j : ℕ) : Memref sig .tc .vmem S256x512 .f32 :=
  if j < 8 then slotM (bufM h) (7 - j) else outM (ck h c j) h
def dstM (h : Fin 2) (c : Dev nD) (j : ℕ) : Memref sig .tc .vmem S256x512 .f32 :=
  if j < 7 then slotM (comM h) (6 - j) else outM (ck h c j) h
/-- The share of the source that a hop's copy is lent: at hop 7 the core reads its source while the copy is in flight. -/
def shr (j : ℕ) : PosShare TreeShare := if j = 7 then fullShare.left else fullShare

/-! ## The semaphores and the cells -/

abbrev barS : Sem sig := barrier0
def sendS (h : Fin 2) (j : ℕ) : DmaSem sig := ⟨3 + (4 * (j % 7) + 2 * h.val + (j / 7) % 2), by have := h.isLt; have : j % 7 < 7 := Nat.mod_lt _ (by decide); have : (j / 7) % 2 < 2 := Nat.mod_lt _ (by decide); show _ < 59; omega⟩
def recvS (h : Fin 2) (j : ℕ) : DmaSem sig := ⟨31 + (2 * (j % 14) + h.val), by have := h.isLt; have : j % 14 < 14 := Nat.mod_lt _ (by decide); show _ < 59; omega⟩

abbrev barCell (c : Dev nD) : GSem nD τ sig := ((c : Thread nD τ), .reg barS)
abbrev sendCell (h : Fin 2) (c : Dev nD) (j : ℕ) : GSem nD τ sig := ((c : Thread nD τ), .dma (sendS h j))
abbrev recvCell (h : Fin 2) (c : Dev nD) (j : ℕ) : GSem nD τ sig := ((c : Thread nD τ), .dma (recvS h j))

abbrev N : ℕ := (outM 0 0).view.dmaCredit
theorem N_pos : 0 < N := View.dmaCredit_pos _ (by decide)

/-! ## Contents -/

section Contents

variable (X : Dev nD → (cc0_stg0_0 : Ref sig .tc).ty.Contents (Elt F)) (Wt : Dev nD → (cc0_stg1_0 : Ref sig .tc).ty.Contents (Elt F))

/-- Rows `256 k …` of a device's context block, as the load reads them. -/
def rowsX (x : (cc0_stg0_0 : Ref sig .tc).ty.Contents (Elt F)) (k : Fin 8) : Vec F S256x1024 .f32 :=
  xM.view.readAt (Elt F) (Rect.unit (s := S2048x1024) ![256 * k.val, 0] S256x1024.size (inbX k)).toLoadRect x
/-- A device's block of the weights, as the load reads it. -/
def allW (w : (cc0_stg1_0 : Ref sig .tc).ty.Contents (Elt F)) : Vec F S1024x1024 .f32 :=
  wM.view.readAt (Elt F) (Rect.unit (s := S1024x1024) ![0, 0] S1024x1024.size inb_S1024x1024_S1024x1024_0_0).toLoadRect w
/-- Device `c`'s own product for chunk `k`. -/
def prodP (c : Dev nD) (k : Fin 8) : FVec F S256x1024 .f32 := k0_pay1 (rowsX (X c) k) (allW (Wt c))
/-- Its left or right half. -/
def halfP (h : Fin 2) (c : Dev nD) (k : Fin 8) : FVec F S256x512 .f32 :=
  if h = 0 then extractStridedSlice S256x512 ![0, 0] (prodP X Wt c k) slices_S256x1024_o0_0_S256x512
  else extractStridedSlice S256x512 ![0, 512] (prodP X Wt c k) slices_S256x1024_o0_512_S256x512
/-- The sum device `c` sends at hop `j` of direction `h`: its own product for the hop's chunk, and what came. -/
def acc (h : Fin 2) (c : Dev nD) : ℕ → FVec F S256x512 .f32
  | 0 => halfP X Wt h c (ck h c 0)
  | j + 1 => addf (halfP X Wt h c (ck h c (j + 1))) (acc h (fb h c) j)
/-- Half `h` of chunk `k` of the result. -/
def outV (h : Fin 2) (k : Fin 8) : FVec F S256x512 .f32 := acc X Wt h (own h k) 7
/-- What device `c` sends at hop `j` of direction `h`. -/
def sentV (h : Fin 2) (c : Dev nD) (j : ℕ) : FVec F S256x512 .f32 :=
  if j < 7 then acc X Wt h c j else outV X Wt h (ck h c j)

theorem acc_seven (h : Fin 2) (c : Dev nD) : acc X Wt h c 7 = outV X Wt h (ck h c 7) := by unfold outV; rw [own_ck]

end Contents

/-! ## Points-tos through the views -/

/-- Device `c` holds share `q` of the elements of `M`, which read `v`. -/
def hold (M : Memref sig .tc .vmem S256x512 .f32) (q : PosShare TreeShare) (v : Vec F S256x512 .f32) (c : Dev nD) : sProp 𝕄 :=
  iprop(∃ f : Buf (Elt F) (M.view.loc (c : Thread nD τ)), ⌜M.view.read (Elt F) f = v⌝ ∗ (M.view.loc (c : Thread nD τ) ↦[M.view.set]{q} f))
/-- Device `c` holds the elements of `M`, whatever they are. -/
def held (M : Memref sig .tc .vmem S256x512 .f32) (c : Dev nD) : sProp 𝕄 :=
  iprop(∃ f : Buf (Elt F) (M.view.loc (c : Thread nD τ)), (M.view.loc (c : Thread nD τ) ↦[M.view.set]{fullShare} f))

instance hold_storable (M : Memref sig .tc .vmem S256x512 .f32) (q : PosShare TreeShare) (v : Vec F S256x512 .f32) (c : Dev nD) :
    BI.Storable (upEmb : UEmb _ 𝕄) (hold (F := F) M q v c) := by unfold hold; infer_instance
instance held_storable (M : Memref sig .tc .vmem S256x512 .f32) (c : Dev nD) :
    BI.Storable (upEmb : UEmb _ 𝕄) (held (F := F) M c) := by unfold held; infer_instance

theorem held_of_hold (M : Memref sig .tc .vmem S256x512 .f32) (v : Vec F S256x512 .f32) (c : Dev nD) :
    (hold (F := F) M fullShare v c : sProp 𝕄) ⊢ held M c := by
  unfold hold held
  iintro ⟨%f, -, H⟩
  iexists f; iexact H

/-! ## The schedule -/

section Schedule

variable (X : Dev nD → (cc0_stg0_0 : Ref sig .tc).ty.Contents (Elt F)) (Wt : Dev nD → (cc0_stg1_0 : Ref sig .tc).ty.Contents (Elt F))

/-- What device `c`'s barrier cell is paid for direction `h`, by the device it will send to: everything its fourteen hops
    of that direction land in, and that those hops' receive cells are open. -/
def barPay (h : Fin 2) (c : Dev nD) : sProp 𝕄 :=
  bigSep (Finset.range 14) fun j => iprop(held (dstM h c j) (nb h c) ∗ reached ER (recvCell h (nb h c) j) 0)
/-- The source of a hop, back with its sender. -/
def sendPay (h : Fin 2) (c : Dev nD) (j : ℕ) : sProp 𝕄 := hold (srcM h c j) (shr j) (sentV X Wt h c j) c
/-- What a hop landed at device `c`. -/
def recvPay (h : Fin 2) (c : Dev nD) (j : ℕ) : sProp 𝕄 := hold (dstM h (fb h c) j) fullShare (sentV X Wt h (fb h c) j) c

/-- The direction and hop of a send or receive semaphore, by its number. -/
def dirOf (q : ℕ) : Fin 2 := if q < 31 then ⟨(q - 3) / 2 % 2, Nat.mod_lt _ (by decide)⟩ else ⟨(q - 31) % 2, Nat.mod_lt _ (by decide)⟩
def hopOf (q : ℕ) : ℕ := if q < 31 then (q - 3) / 4 + 7 * ((q - 3) % 2) else (q - 31) / 2

/-- One round on every cell: two duties on a barrier cell, of one unit each, one on a send or receive cell. -/
def talkRd : Rounds.Schedule (GSem nD τ sig) (Fin 2) 𝕄 where
  duties g r := if r = 0 ∧ g.1.2 = .tc then (match g.2 with
    | .reg s => if s = barS then Finset.univ else ∅
    | .dma q => if 3 ≤ q.val then {0} else ∅) else ∅
  unitless _ := False
  amount g _ _ := match g.2 with
    | .reg _ => 1
    | .dma _ => N
  payload g _ d := match g.2 with
    | .reg _ => barPay d g.1.1
    | .dma q => if q.val < 31 then sendPay X Wt (dirOf q.val) g.1.1 (hopOf q.val) else recvPay X Wt (dirOf q.val) g.1.1 (hopOf q.val)
  amount_pos g _ _ _ := by
    rcases g with ⟨t, s | q⟩
    · exact Nat.one_pos
    · exact N_pos

instance talkRd_payload_storable (g : GSem nD τ sig) (r : ℕ) (d : Fin 2) :
    BI.Storable (upEmb : UEmb _ 𝕄) ((talkRd (F := F) X Wt).payload g r d) := by
  rcases g with ⟨t, s | q⟩
  · show BI.Storable upEmb (barPay d t.1)
    unfold barPay; infer_instance
  · show BI.Storable upEmb (if q.val < 31 then sendPay X Wt (dirOf q.val) t.1 (hopOf q.val) else recvPay X Wt (dirOf q.val) t.1 (hopOf q.val))
    unfold sendPay recvPay
    split <;> infer_instance

theorem sendS_dec : ∀ (h : Fin 2), ∀ j < 14, (sendS h j).val < 31 ∧ dirOf (sendS h j).val = h ∧ hopOf (sendS h j).val = j := by decide
theorem recvS_dec : ∀ (h : Fin 2), ∀ j < 14, ¬ (recvS h j).val < 31 ∧ dirOf (recvS h j).val = h ∧ hopOf (recvS h j).val = j := by decide

theorem duties_bar (c : Dev nD) : (talkRd (F := F) X Wt).duties (barCell c) 0 = Finset.univ := by
  dsimp only [talkRd]; rw [if_pos ⟨rfl, rfl⟩]; exact if_pos rfl
theorem duties_send (h : Fin 2) (c : Dev nD) (j : ℕ) : (talkRd (F := F) X Wt).duties (sendCell h c j) 0 = {0} := by
  dsimp only [talkRd]; rw [if_pos ⟨rfl, rfl⟩]; exact if_pos (Nat.le_add_right 3 _)
theorem duties_recv (h : Fin 2) (c : Dev nD) (j : ℕ) : (talkRd (F := F) X Wt).duties (recvCell h c j) 0 = {0} := by
  dsimp only [talkRd]; rw [if_pos ⟨rfl, rfl⟩]; exact if_pos (le_trans (by decide) (Nat.le_add_right 31 _))
theorem duties_later (g : GSem nD τ sig) : ∀ r, 1 ≤ r → (talkRd (F := F) X Wt).duties g r = ∅ := fun r hr => by
  dsimp only [talkRd]; rw [if_neg (fun h => by omega)]

theorem amount_bar (c : Dev nD) (d : Fin 2) : (talkRd (F := F) X Wt).amount (barCell c) 0 d = 1 := rfl
theorem amount_send (h : Fin 2) (c : Dev nD) (j : ℕ) (d : Fin 2) : (talkRd (F := F) X Wt).amount (sendCell h c j) 0 d = N := rfl
theorem amount_recv (h : Fin 2) (c : Dev nD) (j : ℕ) (d : Fin 2) : (talkRd (F := F) X Wt).amount (recvCell h c j) 0 d = N := rfl

theorem expect_bar (c : Dev nD) : (talkRd (F := F) X Wt).expect (barCell c) 0 = 2 := by
  unfold Schedule.expect Schedule.amountOf; rw [duties_bar]; simp only [amount_bar, Finset.sum_const, Finset.card_univ]; rfl
theorem expect_send (h : Fin 2) (c : Dev nD) (j : ℕ) : (talkRd (F := F) X Wt).expect (sendCell h c j) 0 = N := by
  unfold Schedule.expect Schedule.amountOf; rw [duties_send, Finset.sum_singleton, amount_send]
theorem expect_recv (h : Fin 2) (c : Dev nD) (j : ℕ) : (talkRd (F := F) X Wt).expect (recvCell h c j) 0 = N := by
  unfold Schedule.expect Schedule.amountOf; rw [duties_recv, Finset.sum_singleton, amount_recv]

theorem payload_bar (c : Dev nD) (d : Fin 2) : (talkRd (F := F) X Wt).payload (barCell c) 0 d = barPay d c := rfl
theorem payload_send (h : Fin 2) (c : Dev nD) {j : ℕ} (hj : j < 14) (d : Fin 2) :
    (talkRd (F := F) X Wt).payload (sendCell h c j) 0 d = sendPay X Wt h c j := by
  obtain ⟨h1, h2, h3⟩ := sendS_dec h j hj
  show (if (sendS h j).val < 31 then sendPay X Wt (dirOf (sendS h j).val) c (hopOf (sendS h j).val) else _) = _
  rw [if_pos h1, h2, h3]
theorem payload_recv (h : Fin 2) (c : Dev nD) {j : ℕ} (hj : j < 14) (d : Fin 2) :
    (talkRd (F := F) X Wt).payload (recvCell h c j) 0 d = recvPay X Wt h c j := by
  obtain ⟨h1, h2, h3⟩ := recvS_dec h j hj
  show (if (recvS h j).val < 31 then _ else recvPay X Wt (dirOf (recvS h j).val) c (hopOf (recvS h j).val)) = _
  rw [if_neg h1, h2, h3]

theorem rest_bar (c : Dev nD) : bigSep ((talkRd (F := F) X Wt).duties (barCell c) 0 \ ∅) (fun d => (talkRd (F := F) X Wt).payload (barCell c) 0 d)
    = iprop(barPay 0 c ∗ barPay 1 c) := by
  rw [Finset.sdiff_empty, duties_bar]; exact BI.bigSep_fin_two _
theorem rest_send (h : Fin 2) (c : Dev nD) {j : ℕ} (hj : j < 14) :
    bigSep ((talkRd (F := F) X Wt).duties (sendCell h c j) 0 \ ∅) (fun d => (talkRd (F := F) X Wt).payload (sendCell h c j) 0 d) = sendPay X Wt h c j := by
  rw [Finset.sdiff_empty, duties_send, bigSep_singleton, payload_send X Wt h c hj]
theorem rest_recv (h : Fin 2) (c : Dev nD) {j : ℕ} (hj : j < 14) :
    bigSep ((talkRd (F := F) X Wt).duties (recvCell h c j) 0 \ ∅) (fun d => (talkRd (F := F) X Wt).payload (recvCell h c j) 0 d) = recvPay X Wt h c j := by
  rw [Finset.sdiff_empty, duties_recv, bigSep_singleton, payload_recv X Wt h c hj]

end Schedule

/-! ## What a device owes, and the levels -/

/-- The `i`-th payment a device makes, in the order of its program: the two barrier units, then hop by hop the receive
    credits of direction 0 and of direction 1. -/
def payCell (c : Dev nD) (i : ℕ) : GSem nD τ sig :=
  if i = 0 then barCell (fb 0 c) else if i = 1 then barCell (fb 1 c)
  else if i % 2 = 0 then recvCell 0 (nb 0 c) ((i - 2) / 2) else recvCell 1 (nb 1 c) ((i - 2) / 2)
def payAmt (i : ℕ) : ℕ := if i < 2 then 1 else N
/-- What it owes before its `i`-th payment. -/
def owed (c : Dev nD) (i : ℕ) : CellTallies nD τ sig Unit := ∑ k ∈ Finset.Ico i 30, tallyAt (payCell c k) () (payAmt k)

theorem owed_succ (c : Dev nD) {i : ℕ} (hi : i < 30) : owed c i = owed c (i + 1) + tallyAt (payCell c i) () (payAmt i) := by
  unfold owed; rw [Finset.sum_eq_sum_Ico_succ_bot hi, add_comm]
theorem owed_end (c : Dev nD) : owed c 30 = 0 := by unfold owed; rw [Finset.Ico_self, Finset.sum_empty]

def L (g : GSem nD τ sig) : Finset Unit := if g.1.2 = .tc then {()} else ∅
/-- Send cells lowest, then the barrier, then the receive cells by hop. -/
def lv (g : GSem nD τ sig) (_ : Unit) : ℕ := match g.2 with
  | .reg _ => 1
  | .dma q => if q.val < 31 then 0 else 2 + (q.val - 31) / 2

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_send (h : Fin 2) (c : Dev nD) {j : ℕ} (hj : j < 14) (u : Unit) : lv (sendCell h c j) u = 0 := if_pos (sendS_dec h j hj).1
theorem lv_recv_dec : ∀ (h : Fin 2), ∀ j < 14, (if (recvS h j).val < 31 then 0 else 2 + ((recvS h j).val - 31) / 2) = 2 + j := by decide
theorem lv_recv (h : Fin 2) (c : Dev nD) {j : ℕ} (hj : j < 14) (u : Unit) : lv (recvCell h c j) u = 2 + j := lv_recv_dec h j hj

theorem L_pay (c : Dev nD) (i : ℕ) : L (payCell c i) = {()} := by
  unfold payCell; split_ifs <;> exact L_tc _ _
theorem lv_pay (c : Dev nD) {i : ℕ} (hi : i < 30) (u : Unit) : lv (payCell c i) u = 1 + i / 2 := by
  unfold payCell
  split_ifs with h0 h1 h2
  · subst h0; rfl
  · subst h1; rfl
  · rw [lv_recv 0 _ (by omega)]; omega
  · rw [lv_recv 1 _ (by omega)]; omega

theorem payCell_hop : ∀ (h : Fin 2) (c : Dev nD) (j : ℕ), payCell c (2 + 2 * j + h.val) = recvCell h (nb h c) j
  | ⟨0, _⟩, c, j => by
    show payCell c (2 + 2 * j + 0) = recvCell 0 (nb 0 c) j
    unfold payCell
    rw [if_neg (by omega), if_neg (by omega), if_pos (by omega), show (2 + 2 * j + 0 - 2) / 2 = j by omega]
  | ⟨1, _⟩, c, j => by
    show payCell c (2 + 2 * j + 1) = recvCell 1 (nb 1 c) j
    unfold payCell
    rw [if_neg (by omega), if_neg (by omega), if_neg (by omega), show (2 + 2 * j + 1 - 2) / 2 = j by omega]
theorem payAmt_hop (h : Fin 2) (j : ℕ) : payAmt (2 + 2 * j + h.val) = N := if_neg (by omega)

theorem owed_pos {c : Dev nD} {i : ℕ} {g : GSem nD τ sig} {u : Unit} (h : 0 < owed c i g u) : ∃ k, i ≤ k ∧ k < 30 ∧ g = payCell c k := by
  unfold owed at h
  rw [Finset.sum_apply, Finsupp.finset_sum_apply] at h
  obtain ⟨k, hk, hp⟩ := Finset.exists_ne_zero_of_sum_ne_zero (Nat.pos_iff_ne_zero.mp h)
  rw [tallyAt_apply] at hp
  refine ⟨k, (Finset.mem_Ico.mp hk).1, (Finset.mem_Ico.mp hk).2, ?_⟩
  by_contra hg
  exact hp (if_neg fun h' => hg h'.1)

/-- A device that has made its first `i` payments may wait on a cell below the ones it still owes. -/
theorem mayWait (c : Dev nD) (sm : SemLoc sig) {i : ℕ} (h : lv ((c : Thread nD τ), sm) () < 1 + i / 2) :
    (levAts L lv : sProp 𝕄) ⊢ MayWait (c : Thread nD τ) sm () (owed c i) :=
  MayOwe.of_cut (L := L) (lev := lv) (lv ((c : Thread nD τ), sm) ())
    (fun p hp => by rw [Finset.mem_singleton.mp hp, L_tc]; exact Finset.mem_singleton_self _)
    (fun g u hg => by
      obtain ⟨k, -, -, rfl⟩ := owed_pos hg
      rw [L_pay]; exact Finset.mem_singleton_self _)
    (fun p hp => by rw [Finset.mem_singleton.mp hp])
    (fun g u hg => by
      obtain ⟨k, hk, hk', rfl⟩ := owed_pos hg
      rw [lv_pay c hk']; omega)

abbrev 𝒱₀ : Variants := Variants.none

end Cert.KernelIdeal.Talk
-- ==== Proof.Steps.lean ====
/-
# The steps of the exchange

One rule per kind of step of the kernel's body, at a symbolic device, hop and direction: a send, the two waits that end
a hop of one direction, the products of one chunk, the addition of what came, the copy of a finished chunk.
-/
module

public import proofs.«01_k».proof.Proof.Ring

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F)) (Wt : Dev nD → (cc0_stg1_0 : Ref sig .tc).ty.Contents (Elt F))

/-! ## The protocol's ghost state -/

def barCells : Finset (GSem nD τ sig) := Finset.univ.image barCell
def hopIx : Finset ((Fin 2 × Dev nD) × ℕ) := Finset.univ ×ˢ Finset.range 14
def dmaCells : Finset (GSem nD τ sig) :=
  (hopIx.image fun p => sendCell p.1.1 p.1.2 p.2) ∪ (hopIx.image fun p => recvCell p.1.1 p.1.2 p.2)

theorem mem_hopIx (h : Fin 2) (c : Dev nD) {j : ℕ} (hj : j < 14) : ((h, c), j) ∈ hopIx :=
  Finset.mem_product.mpr ⟨Finset.mem_univ _, Finset.mem_range.mpr hj⟩
theorem mem_bar (c : Dev nD) : barCell c ∈ barCells ∪ dmaCells :=
  Finset.mem_union_left _ (Finset.mem_image_of_mem _ (Finset.mem_univ c))
theorem mem_send (h : Fin 2) (c : Dev nD) {j : ℕ} (hj : j < 14) : sendCell h c j ∈ barCells ∪ dmaCells :=
  Finset.mem_union_right _ (Finset.mem_union_left _ (Finset.mem_image.mpr ⟨((h, c), j), mem_hopIx h c hj, rfl⟩))
theorem mem_recv (h : Fin 2) (c : Dev nD) {j : ℕ} (hj : j < 14) : recvCell h c j ∈ barCells ∪ dmaCells :=
  Finset.mem_union_right _ (Finset.mem_union_right _ (Finset.mem_image.mpr ⟨((h, c), j), mem_hopIx h c hj, rfl⟩))

/-- What a device holds for one hop of one direction before the exchange begins: the tokens it pays with, its positions
    on its own two cells, and the credit it waits with. -/
def hop (h : Fin 2) (c : Dev nD) (j : ℕ) : sProp 𝕄 :=
  iprop(dutyTok ER (sendCell h c j) 0 0 ∗ dutyTok ER (recvCell h (nb h c) j) 0 0
    ∗ (atPos ER (sendCell h c j) 0 ∅ 0 ∗ atPos ER (recvCell h c j) 0 ∅ 0 ∗ cred (tallyAt (recvCell h c j) () N))
    ∗ reached ER (sendCell h c j) 0)
/-- With what the neighbour handed over at the barrier: what the hop lands in, and that its receive cell is open. -/
def ready (h : Fin 2) (c : Dev nD) (j : ℕ) : sProp 𝕄 :=
  iprop(hop h c j ∗ held (dstM h c j) (nb h c) ∗ reached ER (recvCell h (nb h c) j) 0)
/-- A hop whose copy is in flight. -/
def flight (h : Fin 2) (c : Dev nD) (j : ℕ) : sProp 𝕄 :=
  iprop(cred (tallyAt (sendCell h c j) () N)
    ∗ atPos ER (sendCell h c j) 0 ∅ 0 ∗ atPos ER (recvCell h c j) 0 ∅ 0 ∗ cred (tallyAt (recvCell h c j) () N))
/-- The device owes its payments from the `i`-th on. -/
def due (c : Dev nD) (i : ℕ) : sProp 𝕄 := iprop(∃ W : Waits sig Unit, owes (c : Thread nD τ) (owed c i) W)
/-- The two counters of a finished hop, at zero. -/
def idle (h : Fin 2) (c : Dev nD) (j : ℕ) : sProp 𝕄 := iprop(semVal (sendCell h c j) 0 ∗ semVal (recvCell h c j) 0)

theorem close (κ : ℕ) (g : GSem nD τ sig) :
    iprop(cellInv ER (talkRd X Wt) κ g ∗ atPos ER g (0 + 1) ∅ 0) ⊢ (|={Set.univ}=> semVal g 0 : sProp 𝕄) :=
  Rounds.cell_close ER (talkRd X Wt) (Set.mem_univ κ) id (duties_later X Wt g)

theorem amount_dst (h : Fin 2) (c : Dev nD) (j : ℕ) (q : DmaSem sig) : (dstM h c j).view.amount (.dma q) = N := by
  unfold dstM
  split
  · fin_cases h <;> rfl
  · rfl

section Steps

/-! The invariants of all cells, at the names `K` the launch gave them, are a persistent assertion `I` here, of which only
`hI` is known. -/

variable (K : GSem nD τ sig → ℕ) (I : sProp (MT nD τ sig Unit (Elt F) ℕ UU ℕ)) [BI.Persistent I]
  (hI : ∀ g, g ∈ barCells ∪ dmaCells → (I ⊢ cellInv ER (talkRd (F := F) X Wt) (K g) g))
include hI

/-! ## A send -/

theorem step_send (h : Fin 2) (c : Dev nD) {j : ℕ} (hj : j < 14)
    {src : Memref sig .tc .vmem S256x512 .f32} (hs : src = srcM h c j)
    {n : Dev nD} (hn : n = nb h c)
    {dst : Memref sig (Dev.tc n : Thread nD τ).2.kind .vmem S256x512 .f32} (hd : dst = dstM h c j)
    {sS sV : DmaSem sig} (hsS : sS = sendS h j) (hsV : sV = recvS h j)
    {hsc : dst.view.ref.isScScratch = false} {hsrc : src.view.WordExact} {hdst : dst.view.WordExact}
    {hsem : DmaTarget.Typed .vmem (.dma sV) (.remote (Dev.tc n : Thread nD τ) dst (.dma sS) hsc)}
    {α : Type} {Q : α → sProp 𝕄} {k : PUnit → Prog (TpuEff nD τ sig (Elt F) Λ₀ .tc) α} :
    iprop(I ∗ ready h c j ∗ hold (srcM h c j) (shr j) (sentV X Wt h c j) c ∗ due c (2 + 2 * j + h.val))
      ⊢ iprop(((flight h c j ∗ due c (2 + 2 * j + h.val + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sV) hsrc hdst hsem) k) Q) := by
  subst hn hs hd hsS hsV
  unfold ready hop hold held due flight
  iintro ⟨#HI, ⟨⟨HtS, HtV, Hpos, #HrS⟩, ⟨%fd, Hd⟩, #HrV⟩, ⟨%fs, %hfs, Hs⟩, ⟨%W, HO⟩⟩ Hk
  iapply (Rounds.wp_send_pointsTo 𝒱₀ ER (talkRd X Wt) (c : Thread nD τ) none (c' := (nb h c : Thread nD τ))
      (src := srcM h c j) (dst := dstM h c j) (sS := .dma (sendS h j)) (sem := .dma (recvS h j)) (q := shr j) (fs := fs)
      (κ₁ := K (sendCell h c j)) (κ₂ := K (recvCell h (nb h c) j)) (r₁ := 0) (r₂ := 0) (d₁ := 0) (d₂ := 0) (fd := fd)
      (by rw [duties_send]; exact Finset.mem_singleton_self _) (by rw [duties_recv]; exact Finset.mem_singleton_self _)
      () () N (amount_dst h c j _) rfl rfl (owed c (2 + 2 * j + h.val + 1))
      (O₀ := owed c (2 + 2 * j + h.val)) (by rw [owed_succ c (show 2 + 2 * j + h.val < 30 by have := h.isLt; omega), payCell_hop, payAmt_hop]) (W := W)
      (by
        rw [payload_send X Wt h c hj]; unfold sendPay hold
        iintro H; iexists fs; isplitr; · ipureintro; exact hfs
        iexact H)
      (by
        rw [payload_recv X Wt h (nb h c) hj]; unfold recvPay hold; rw [fb_nb]
        iintro H; iexists _; isplitr; swap; · iexact H
        ipureintro; rw [View.read_write_univ]; exact hfs)) $$ [Hs Hd HO HtS HtV]
  · isplitr; · iapply (hI _ (mem_send h c hj)); iexact HI
    isplitr; · iapply (hI _ (mem_recv h (nb h c) hj)); iexact HI
    isplitl [Hs]; · iexact Hs
    isplitl [Hd]; · iexact Hd
    isplitl [HO]; · iexact HO
    isplitl [HtS]; · iexact HtS
    isplitr; · iexact HrS
    isplitl [HtV]; · iexact HtV
    iexact HrV
  iintro ⟨HcS, HO⟩
  iapply Hk
  isplitl [HcS Hpos]
  · isplitl [HcS]; · iexact HcS
    iexact Hpos
  iexists W; iexact HO

/-! ## The two waits that end a hop of one direction -/

/-- A wait on a cell the device owns, for the whole of its one round: it takes the cell's payload and closes the cell. -/
theorem step_wait (c : Dev nD) (q : DmaSem sig) {i : ℕ} (P : sProp 𝕄)
    (hm : ((c : Thread nD τ), SemLoc.dma q) ∈ barCells ∪ dmaCells)
    (hl : lv ((c : Thread nD τ), .dma q) () < 1 + i / 2) (he : (talkRd (F := F) X Wt).expect ((c : Thread nD τ), .dma q) 0 = N)
    (hp : bigSep ((talkRd (F := F) X Wt).duties ((c : Thread nD τ), .dma q) 0 \ ∅) (fun d => (talkRd (F := F) X Wt).payload ((c : Thread nD τ), .dma q) 0 d) = P)
    {a b : Memref sig .tc .vmem S256x512 .f32} (ha : a.view.dmaCredit = N)
    {hx : b.view.WordExact} {hy : a.view.WordExact}
    {α : Type} {Q : α → sProp 𝕄} {k : PUnit → Prog (TpuEff nD τ sig (Elt F) Λ₀ .tc) α} :
    iprop(I ∗ levAts L lv ∗ cred (tallyAt ((c : Thread nD τ), SemLoc.dma q) () N) ∗ atPos ER ((c : Thread nD τ), SemLoc.dma q) 0 ∅ 0 ∗ due c i)
      ⊢ iprop(((P ∗ semVal ((c : Thread nD τ), SemLoc.dma q) 0 ∗ due c i) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q b a hx hy) k) Q) := by
  unfold due
  iintro ⟨#HI, #Hlev, Hc, Hat, ⟨%W, HO⟩⟩ Hk
  ihave #HI' := (hI _ hm) $$ HI
  iapply (Rounds.wp_wait_rest_token 𝒱₀ ER (talkRd X Wt) (c : Thread nD τ) none (κ := K ((c : Thread nD τ), .dma q))
      (wpE_waitDma2_eq 𝒱₀ (c : Thread nD τ) none Set.univ) (Set.mem_univ _) () (O := owed c i) (W := W) (R := 0) (m := 0) (T := ∅)
      (by rw [Nat.zero_add, ha, he])) $$ [Hc HO Hat]
  · isplitr; · iexact HI'
    isplitl [Hc]; · rw [ha]; iexact Hc
    isplitl [HO]; · iexact HO
    isplitr
    · iapply (mayWait c (.dma q) hl); iexact Hlev
    iexact Hat
  iintro ⟨HO, Hat, -, Hp⟩
  ihave Hp := (Entails.of_eq hp) $$ Hp
  imod (close X Wt (K ((c : Thread nD τ), .dma q)) ((c : Thread nD τ), .dma q)) $$ [Hat] with Hz
  · isplitr; · iexact HI'
    iexact Hat
  iapply Hk
  isplitl [Hp]; · iexact Hp
  isplitl [Hz]; · iexact Hz
  iexists _; iexact HO

theorem step_waits (h : Fin 2) (c : Dev nD) {j i : ℕ} (hj : j < 14) (hi : 2 + j < 1 + i / 2)
    {sS sV : DmaSem sig} (hsS : sS = sendS h j) (hsV : sV = recvS h j)
    {a₁ b₁ a₂ b₂ : Memref sig .tc .vmem S256x512 .f32} (ha₁ : a₁.view.dmaCredit = N) (ha₂ : a₂.view.dmaCredit = N)
    {hx₁ : b₁.view.WordExact} {hy₁ : a₁.view.WordExact} {hx₂ : b₂.view.WordExact} {hy₂ : a₂.view.WordExact}
    {α : Type} {Q : α → sProp 𝕄} {k : PUnit → Prog (TpuEff nD τ sig (Elt F) Λ₀ .tc) α} :
    iprop(I ∗ levAts L lv ∗ flight h c j ∗ due c i)
      ⊢ iprop(((sendPay X Wt h c j ∗ recvPay X Wt h c j ∗ idle h c j ∗ due c i) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sS b₁ a₁ hx₁ hy₁) fun _ => .op (.waitDma2 sV b₂ a₂ hx₂ hy₂) k) Q) := by
  unfold flight idle
  iintro ⟨#HI, #Hlev, ⟨HcS, HatS, HatV, HcV⟩, HO⟩ Hk
  iapply (step_wait X Wt K I hI c sS (sendPay X Wt h c j) (by rw [hsS]; exact mem_send h c hj) (by rw [hsS, lv_send h c hj]; omega)
    (by rw [hsS]; exact expect_send X Wt h c j) (by rw [hsS]; exact rest_send X Wt h c hj) ha₁) $$ [HcS HatS HO]
  · isplitr; · iexact HI
    isplitr; · iexact Hlev
    rw [hsS]
    isplitl [HcS]; · iexact HcS
    isplitl [HatS]; · iexact HatS
    iexact HO
  iintro ⟨HpS, HzS, HO⟩
  iapply (step_wait X Wt K I hI c sV (recvPay X Wt h c j) (by rw [hsV]; exact mem_recv h c hj) (by rw [hsV, lv_recv h c hj]; omega)
    (by rw [hsV]; exact expect_recv X Wt h c j) (by rw [hsV]; exact rest_recv X Wt h c hj) ha₂) $$ [HcV HatV HO]
  · isplitr; · iexact HI
    isplitr; · iexact Hlev
    rw [hsV]
    isplitl [HcV]; · iexact HcV
    isplitl [HatV]; · iexact HatV
    iexact HO
  iintro ⟨HpV, HzV, HO⟩
  iapply Hk
  isplitl [HpS]; · iexact HpS
  isplitl [HpV]; · iexact HpV
  isplitl [HzS HzV]
  · rw [hsS, hsV]; isplitl [HzS]; · iexact HzS
    iexact HzV
  iexact HO

end Steps

end Cert.KernelIdeal.Talk
-- ==== Proof.Mem.lean ====
/-
# Loads and stores of the exchange

The kernel's loads and stores, on the assertions `hold` and `held` of a slot or of a piece of the result.
-/
module

public import proofs.«01_k».proof.Proof.Steps

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The view of a slot that the program's loads and stores go through. -/
abbrev slotV (B : Memref sig .tc .vmem S8x256x512 .f32) (k : ℕ) : View sig .tc .vmem S1x256x512 .f32 :=
  B.access (Rect.unit (s := S8x256x512) ![k % 8, 0, 0] S1x256x512.size (inbS k))

theorem slot_set (B : Memref sig .tc .vmem S8x256x512 .f32) (k : ℕ) : (slotM B k).view.set = (slotV B k).set :=
  View.set_reshape _ _

/-- A slot's assertions, through that view. -/
theorem hold_slot (B : Memref sig .tc .vmem S8x256x512 .f32) (k : ℕ) (q : PosShare TreeShare) (v : Vec F S256x512 .f32) (c : Dev nD) :
    (hold (slotM B k) q v c : sProp 𝕄)
      = iprop(∃ f : Buf (Elt F) ((slotV B k).loc (c : Thread nD τ)),
          ⌜shapeCast S256x512 ((slotV B k).read (Elt F) f) shapeCasts_S1x256x512_S256x512 = v⌝ ∗ ((slotV B k).loc (c : Thread nD τ) ↦[(slotV B k).set]{q} f)) := by
  unfold hold; rw [slot_set]; rfl
theorem held_slot (B : Memref sig .tc .vmem S8x256x512 .f32) (k : ℕ) (c : Dev nD) :
    (held (slotM B k) c : sProp 𝕄)
      = iprop(∃ f : Buf (Elt F) ((slotV B k).loc (c : Thread nD τ)), ((slotV B k).loc (c : Thread nD τ) ↦[(slotV B k).set]{fullShare} f)) := by
  unfold held; rw [slot_set]; rfl

theorem load_slot (c : Dev nD) (B : Memref sig .tc .vmem S8x256x512 .f32) (k : ℕ) (q : PosShare TreeShare) (v : Vec F S256x512 .f32)
    {off : Fin 3 → ℕ} (ho : off = ![k % 8, 0, 0]) {hin : ∀ a, off a + S1x256x512.size a ≤ S8x256x512.size a}
    {hl : B.view.LoadsAt (Rect.unit (s := S8x256x512) off S1x256x512.size hin).toLoadRect}
    {α : Type} {Q : α → sProp 𝕄} {kk : Vec F S1x256x512 .f32 → Prog (TpuEff nD τ sig (Elt F) Λ₀ .tc) α} :
    hold (slotM B k) q v c
      ⊢ iprop((∀ x : Vec F S1x256x512 .f32, ⌜shapeCast S256x512 x shapeCasts_S1x256x512_S256x512 = v⌝ -∗ hold (slotM B k) q v c
            -∗ wp frame (wpE (defs₀ (F := F)) 𝒱₀ (c : Thread nD τ) none) Set.univ (kk x) Q)
          -∗ wp frame (wpE (defs₀ (F := F)) 𝒱₀ (c : Thread nD τ) none) Set.univ
              (.op (.load B (Rect.unit (s := S8x256x512) off S1x256x512.size hin).toLoadRect hl) kk) Q) := by
  subst ho
  rw [hold_slot]
  iintro ⟨%f, %hf, H⟩ Hk
  iapply (wp_load_rect 𝒱₀ (c : Thread nD τ) none Set.univ (m := B) (r := Rect.unit (s := S8x256x512) ![k % 8, 0, 0] S1x256x512.size (inbS k))
    (S := (slotV B k).set) (q := q) (f := f) (subset_refl _)) $$ [H]
  · iexact H
  iintro H
  ispecialize Hk $$ %((slotV B k).read (Elt F) f)
  iapply Hk
  · ipureintro; exact hf
  iexists f; isplitr; · ipureintro; exact hf
  iexact H

theorem load_held (c : Dev nD) (B : Memref sig .tc .vmem S8x256x512 .f32) (k : ℕ)
    {off : Fin 3 → ℕ} (ho : off = ![k % 8, 0, 0]) {hin : ∀ a, off a + S1x256x512.size a ≤ S8x256x512.size a}
    {hl : B.view.LoadsAt (Rect.unit (s := S8x256x512) off S1x256x512.size hin).toLoadRect}
    {α : Type} {Q : α → sProp 𝕄} {kk : Vec F S1x256x512 .f32 → Prog (TpuEff nD τ sig (Elt F) Λ₀ .tc) α} :
    (held (slotM B k) c : sProp 𝕄)
      ⊢ iprop((∀ x : Vec F S1x256x512 .f32, held (slotM B k) c
            -∗ wp frame (wpE (defs₀ (F := F)) 𝒱₀ (c : Thread nD τ) none) Set.univ (kk x) Q)
          -∗ wp frame (wpE (defs₀ (F := F)) 𝒱₀ (c : Thread nD τ) none) Set.univ
              (.op (.load B (Rect.unit (s := S8x256x512) off S1x256x512.size hin).toLoadRect hl) kk) Q) := by
  subst ho
  rw [held_slot]
  iintro ⟨%f, H⟩ Hk
  iapply (wp_load_rect 𝒱₀ (c : Thread nD τ) none Set.univ (m := B) (r := Rect.unit (s := S8x256x512) ![k % 8, 0, 0] S1x256x512.size (inbS k))
    (S := (slotV B k).set) (q := fullShare) (f := f) (subset_refl _)) $$ [H]
  · iexact H
  iintro H
  ispecialize Hk $$ %((slotV B k).read (Elt F) f)
  iapply Hk
  iexists f
  iexact H

theorem store_slot (c : Dev nD) (B : Memref sig .tc .vmem S8x256x512 .f32) (k : ℕ) (v : Vec F S256x512 .f32)
    {off : Fin 3 → ℕ} (ho : off = ![k % 8, 0, 0]) {hin : ∀ a, off a + S1x256x512.size a ≤ S8x256x512.size a}
    {hx : (B.access (Rect.unit (s := S8x256x512) off S1x256x512.size hin)).Stores Finset.univ} {hm}
    {α : Type} {Q : α → sProp 𝕄} {kk : PUnit → Prog (TpuEff nD τ sig (Elt F) Λ₀ .tc) α} :
    (held (slotM B k) c : sProp 𝕄)
      ⊢ iprop((hold (slotM B k) fullShare v c
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.store B (Rect.unit (s := S8x256x512) off S1x256x512.size hin)
                (shapeCast S1x256x512 v shapeCasts_S256x512_S1x256x512 : Vec F S1x256x512 .f32) Finset.univ hx hm) kk) Q) := by
  subst ho
  rw [held_slot, hold_slot]
  iintro ⟨%f, H⟩ Hk
  iapply (wp_store 𝒱₀ (c : Thread nD τ) none Set.univ (m := B) (r := Rect.unit (s := S8x256x512) ![k % 8, 0, 0] S1x256x512.size (inbS k))
    (Mk := Finset.univ) (S := (slotV B k).set) (f := f) (subset_refl _)) $$ [H]
  · iexact H
  iintro H
  iapply Hk
  iexists _; isplitr; swap; · iexact H
  ipureintro
  rw [View.read_write_univ]
  exact shapeCast_shapeCast v _ _

/-- A piece of the result, as the program writes its view. -/
theorem out_slice (k : Fin 8) (h : Fin 2) {off : Fin 2 → ℕ} (ho : off = ![256 * k.val, 512 * h.val])
    {hin : ∀ a, off a + S256x512.size a ≤ S2048x1024.size a} {hr} :
    oM.slice (Rect.unit (s := S2048x1024) off S256x512.size hin) hr = outM k h := by
  subst ho; rfl

abbrev outV' (k : Fin 8) (h : Fin 2) : View sig .tc .vmem S256x512 .f32 :=
  oM.access (Rect.unit (s := S2048x1024) ![256 * k.val, 512 * h.val] S256x512.size (inbO k h))
theorem hold_out (k : Fin 8) (h : Fin 2) (q : PosShare TreeShare) (v : Vec F S256x512 .f32) (c : Dev nD) :
    (hold (outM k h) q v c : sProp 𝕄)
      = iprop(∃ f : Buf (Elt F) ((outV' k h).loc (c : Thread nD τ)), ⌜(outV' k h).read (Elt F) f = v⌝ ∗ ((outV' k h).loc (c : Thread nD τ) ↦[(outV' k h).set]{q} f)) := rfl
theorem held_out (k : Fin 8) (h : Fin 2) (c : Dev nD) :
    (held (outM k h) c : sProp 𝕄)
      = iprop(∃ f : Buf (Elt F) ((outV' k h).loc (c : Thread nD τ)), ((outV' k h).loc (c : Thread nD τ) ↦[(outV' k h).set]{fullShare} f)) := rfl

theorem load_out (c : Dev nD) (k : Fin 8) (h : Fin 2) {off : Fin 2 → ℕ} (ho : off = ![256 * k.val, 512 * h.val])
    {hin : ∀ a, off a + S256x512.size a ≤ S2048x1024.size a}
    {hl : oM.view.LoadsAt (Rect.unit (s := S2048x1024) off S256x512.size hin).toLoadRect}
    {α : Type} {Q : α → sProp 𝕄} {kk : Vec F S256x512 .f32 → Prog (TpuEff nD τ sig (Elt F) Λ₀ .tc) α} :
    (held (outM k h) c : sProp 𝕄)
      ⊢ iprop((∀ x : Vec F S256x512 .f32, held (outM k h) c
            -∗ wp frame (wpE (defs₀ (F := F)) 𝒱₀ (c : Thread nD τ) none) Set.univ (kk x) Q)
          -∗ wp frame (wpE (defs₀ (F := F)) 𝒱₀ (c : Thread nD τ) none) Set.univ
              (.op (.load oM (Rect.unit (s := S2048x1024) off S256x512.size hin).toLoadRect hl) kk) Q) := by
  subst ho
  rw [held_out]
  iintro ⟨%f, H⟩ Hk
  iapply (wp_load_rect 𝒱₀ (c : Thread nD τ) none Set.univ (m := oM) (r := Rect.unit (s := S2048x1024) ![256 * k.val, 512 * h.val] S256x512.size (inbO k h))
    (S := (outV' k h).set) (q := fullShare) (f := f) (subset_refl _)) $$ [H]
  · iexact H
  iintro H
  ispecialize Hk $$ %((outV' k h).read (Elt F) f)
  iapply Hk
  iexists f
  iexact H

theorem store_out (c : Dev nD) (k : Fin 8) (h : Fin 2) {off : Fin 2 → ℕ} (ho : off = ![256 * k.val, 512 * h.val]) (v : Vec F S256x512 .f32)
    {hin : ∀ a, off a + S256x512.size a ≤ S2048x1024.size a}
    {hx : (oM.access (Rect.unit (s := S2048x1024) off S256x512.size hin)).Stores Finset.univ} {hm}
    {α : Type} {Q : α → sProp 𝕄} {kk : PUnit → Prog (TpuEff nD τ sig (Elt F) Λ₀ .tc) α} :
    (held (outM k h) c : sProp 𝕄)
      ⊢ iprop((hold (outM k h) fullShare v c
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.store oM (Rect.unit (s := S2048x1024) off S256x512.size hin) v Finset.univ hx hm) kk) Q) := by
  subst ho
  rw [held_out, hold_out]
  iintro ⟨%f, H⟩ Hk
  iapply (wp_store 𝒱₀ (c : Thread nD τ) none Set.univ (m := oM) (r := Rect.unit (s := S2048x1024) ![256 * k.val, 512 * h.val] S256x512.size (inbO k h))
    (Mk := Finset.univ) (S := (outV' k h).set) (f := f) (subset_refl _)) $$ [H]
  · iexact H
  iintro H
  iapply Hk
  iexists _; isplitr; swap; · iexact H
  ipureintro
  exact View.read_write_univ _ _

variable (X : Dev nD → (cc0_stg0_0 : Ref sig .tc).ty.Contents (Elt F)) (Wt : Dev nD → (cc0_stg1_0 : Ref sig .tc).ty.Contents (Elt F))

/-- The two blocks a device reads, as staged. -/
def blocks (c : Dev nD) : sProp 𝕄 :=
  iprop((xM.view.loc (c : Thread nD τ) ↦{fullShare} X c) ∗ (wM.view.loc (c : Thread nD τ) ↦{fullShare} Wt c))

/-- The products of one chunk: both operands loaded, the two halves of the product stored to a slot of either buffer. -/
theorem step_prod (c : Dev nD) (k : Fin 8) (k₀ k₁ : ℕ)
    {off : Fin 2 → ℕ} (ho : off = ![256 * k.val, 0]) {hin : ∀ a, off a + S256x1024.size a ≤ S2048x1024.size a} {hl₀}
    {hw : ∀ a, (![0, 0] : Fin 2 → ℕ) a + S1024x1024.size a ≤ S1024x1024.size a} {hl₁}
    {o₀ o₁ : Fin 3 → ℕ} (ho₀ : o₀ = ![k₀ % 8, 0, 0]) (ho₁ : o₁ = ![k₁ % 8, 0, 0])
    {hi₀ : ∀ a, o₀ a + S1x256x512.size a ≤ S8x256x512.size a} {hi₁ : ∀ a, o₁ a + S1x256x512.size a ≤ S8x256x512.size a}
    {hl₂ hl₃ hx₀ hx₁ hm₀ hm₁}
    {α : Type} {Q : α → sProp 𝕄} {kk : Vec F S256x1024 .f32 → Vec F S1024x1024 .f32 → Vec F S1x256x512 .f32 → Vec F S1x256x512 .f32 → PUnit → Prog (TpuEff nD τ sig (Elt F) Λ₀ .tc) α} :
    iprop(blocks X Wt c ∗ held (slotM (bufM 0) k₀) c ∗ held (slotM (bufM 1) k₁) c)
      ⊢ iprop((∀ (a : Vec F S256x1024 .f32) (b : Vec F S1024x1024 .f32) (x y : Vec F S1x256x512 .f32), (blocks X Wt c ∗ hold (slotM (bufM 0) k₀) fullShare (halfP X Wt 0 c k) c ∗ hold (slotM (bufM 1) k₁) fullShare (halfP X Wt 1 c k) c)
            -∗ wp frame (wpE (defs₀ (F := F)) 𝒱₀ (c : Thread nD τ) none) Set.univ (kk a b x y ⟨⟩) Q)
          -∗ wp frame (wpE (defs₀ (F := F)) 𝒱₀ (c : Thread nD τ) none) Set.univ
              (.op (.load xM (Rect.unit (s := S2048x1024) off S256x1024.size hin).toLoadRect hl₀) fun a =>
               .op (.load wM (Rect.unit (s := S1024x1024) ![0, 0] S1024x1024.size hw).toLoadRect hl₁) fun b =>
               .op (.load (Memref.whole cc0_scratch0) (Rect.unit (s := S8x256x512) o₀ S1x256x512.size hi₀).toLoadRect hl₂) fun x =>
               .op (.store (Memref.whole cc0_scratch0) (Rect.unit (s := S8x256x512) o₀ S1x256x512.size hi₀)
                  (shapeCast S1x256x512 (extractStridedSlice S256x512 ![0, 0] (matmul dot_S256x1024_S1024x1024_S256x1024_1_0_0_1_n_n none (shapeCast S256x1024 a shapeCasts_S256x1024_S256x1024) (shapeCast S1024x1024 b shapeCasts_S1024x1024_S1024x1024) (constant S256x1024 .f32 0x00000000#32)) slices_S256x1024_o0_0_S256x512) shapeCasts_S256x512_S1x256x512) Finset.univ hx₀ hm₀) fun _ =>
               .op (.load (Memref.whole cc0_scratch1) (Rect.unit (s := S8x256x512) o₁ S1x256x512.size hi₁).toLoadRect hl₃) fun y =>
               .op (.store (Memref.whole cc0_scratch1) (Rect.unit (s := S8x256x512) o₁ S1x256x512.size hi₁)
                  (shapeCast S1x256x512 (extractStridedSlice S256x512 ![0, 512] (matmul dot_S256x1024_S1024x1024_S256x1024_1_0_0_1_n_n none (shapeCast S256x1024 a shapeCasts_S256x1024_S256x1024) (shapeCast S1024x1024 b shapeCasts_S1024x1024_S1024x1024) (constant S256x1024 .f32 0x00000000#32)) slices_S256x1024_o0_512_S256x512) shapeCasts_S256x512_S1x256x512) Finset.univ hx₁ hm₁) (kk a b x y)) Q) := by
  subst ho
  unfold blocks
  iintro ⟨⟨HX, HW⟩, H0, H1⟩ Hk
  iapply (wp_load 𝒱₀ (c : Thread nD τ) none Set.univ (m := xM) (S := Finset.univ) (q := fullShare) (f := X c) (Finset.subset_univ _)) $$ [HX]
  · iexact HX
  iintro HX
  iapply (wp_load 𝒱₀ (c : Thread nD τ) none Set.univ (m := wM) (S := Finset.univ) (q := fullShare) (f := Wt c) (Finset.subset_univ _)) $$ [HW]
  · iexact HW
  iintro HW
  iapply (load_held c (Memref.whole cc0_scratch0) k₀ ho₀) $$ [H0]
  · iexact H0
  iintro %x H0
  iapply (store_slot c (Memref.whole cc0_scratch0) k₀ (halfP X Wt 0 c k) ho₀) $$ [H0]
  · iexact H0
  iintro H0
  iapply (load_held c (Memref.whole cc0_scratch1) k₁ ho₁) $$ [H1]
  · iexact H1
  iintro %y H1
  iapply (store_slot c (Memref.whole cc0_scratch1) k₁ (halfP X Wt 1 c k) ho₁) $$ [H1]
  · iexact H1
  iintro H1
  ispecialize Hk $$ %_ %_ %x %y
  iapply Hk
  isplitl [HX HW]; · isplitl [HX]; · iexact HX
                     iexact HW
  isplitl [H0]; · iexact H0
  iexact H1

/-- The addition of what came in one direction: slot `k₀` of the partial sums takes its sum with slot `k₁` of what landed. -/
theorem step_add (c : Dev nD) (B C : Memref sig .tc .vmem S8x256x512 .f32) (k₀ k₁ : ℕ) (u v : Vec F S256x512 .f32)
    {o₀ o₁ : Fin 3 → ℕ} (ho₀ : o₀ = ![k₀ % 8, 0, 0]) (ho₁ : o₁ = ![k₁ % 8, 0, 0])
    {hi₀ : ∀ a, o₀ a + S1x256x512.size a ≤ S8x256x512.size a} {hi₁ : ∀ a, o₁ a + S1x256x512.size a ≤ S8x256x512.size a}
    {hl₀ hl₁ hl₂ hx hm}
    {α : Type} {Q : α → sProp 𝕄} {kk : Vec F S1x256x512 .f32 → Vec F S1x256x512 .f32 → Vec F S1x256x512 .f32 → PUnit → Prog (TpuEff nD τ sig (Elt F) Λ₀ .tc) α} :
    iprop(hold (slotM B k₀) fullShare u c ∗ hold (slotM C k₁) fullShare v c)
      ⊢ iprop((∀ (a b d : Vec F S1x256x512 .f32), (hold (slotM B k₀) fullShare (addf u v) c ∗ held (slotM C k₁) c)
            -∗ wp frame (wpE (defs₀ (F := F)) 𝒱₀ (c : Thread nD τ) none) Set.univ (kk a b d ⟨⟩) Q)
          -∗ wp frame (wpE (defs₀ (F := F)) 𝒱₀ (c : Thread nD τ) none) Set.univ
              (.op (.load B (Rect.unit (s := S8x256x512) o₀ S1x256x512.size hi₀).toLoadRect hl₀) fun a =>
               .op (.load C (Rect.unit (s := S8x256x512) o₁ S1x256x512.size hi₁).toLoadRect hl₁) fun b =>
               .op (.load B (Rect.unit (s := S8x256x512) o₀ S1x256x512.size hi₀).toLoadRect hl₂) fun d =>
               .op (.store B (Rect.unit (s := S8x256x512) o₀ S1x256x512.size hi₀)
                  (shapeCast S1x256x512 (addf (shapeCast S256x512 a shapeCasts_S1x256x512_S256x512) (shapeCast S256x512 b shapeCasts_S1x256x512_S256x512))
                    shapeCasts_S256x512_S1x256x512) Finset.univ hx hm) (kk a b d)) Q) := by
  iintro ⟨H0, H1⟩ Hk
  iapply (load_slot c B k₀ fullShare u ho₀) $$ [H0]
  · iexact H0
  iintro %x %hx' H0
  iapply (load_slot c C k₁ fullShare v ho₁) $$ [H1]
  · iexact H1
  iintro %y %hy' H1
  ihave H0 := (held_of_hold (slotM B k₀) u c) $$ H0
  iapply (load_held c B k₀ ho₀) $$ [H0]
  · iexact H0
  iintro %d H0
  rw [hx', hy']
  iapply (store_slot c B k₀ (addf u v) ho₀) $$ [H0]
  · iexact H0
  iintro H0
  ispecialize Hk $$ %x %y %d
  iapply Hk
  isplitl [H0]; · iexact H0
  iapply (held_of_hold (slotM C k₁) v c); iexact H1

/-- A finished half chunk copied from its slot, of which a share is held, to the result. -/
theorem step_copy (c : Dev nD) (B : Memref sig .tc .vmem S8x256x512 .f32) (k₀ : ℕ) (q : PosShare TreeShare) (v : Vec F S256x512 .f32) (k : Fin 8) (h : Fin 2)
    {o₀ : Fin 3 → ℕ} (ho₀ : o₀ = ![k₀ % 8, 0, 0]) {hi₀ : ∀ a, o₀ a + S1x256x512.size a ≤ S8x256x512.size a}
    {off : Fin 2 → ℕ} (ho : off = ![256 * k.val, 512 * h.val]) {hin : ∀ a, off a + S256x512.size a ≤ S2048x1024.size a}
    {hl₀ hl₁ hx hm}
    {α : Type} {Q : α → sProp 𝕄} {kk : Vec F S1x256x512 .f32 → Vec F S256x512 .f32 → PUnit → Prog (TpuEff nD τ sig (Elt F) Λ₀ .tc) α} :
    iprop(hold (slotM B k₀) q v c ∗ held (outM k h) c)
      ⊢ iprop((∀ (a : Vec F S1x256x512 .f32) (d : Vec F S256x512 .f32), (hold (slotM B k₀) q v c ∗ hold (outM k h) fullShare v c)
            -∗ wp frame (wpE (defs₀ (F := F)) 𝒱₀ (c : Thread nD τ) none) Set.univ (kk a d ⟨⟩) Q)
          -∗ wp frame (wpE (defs₀ (F := F)) 𝒱₀ (c : Thread nD τ) none) Set.univ
              (.op (.load B (Rect.unit (s := S8x256x512) o₀ S1x256x512.size hi₀).toLoadRect hl₀) fun a =>
               .op (.load oM (Rect.unit (s := S2048x1024) off S256x512.size hin).toLoadRect hl₁) fun d =>
               .op (.store oM (Rect.unit (s := S2048x1024) off S256x512.size hin)
                  (shapeCast S256x512 a shapeCasts_S1x256x512_S256x512) Finset.univ hx hm) (kk a d)) Q) := by
  iintro ⟨H0, H1⟩ Hk
  iapply (load_slot c B k₀ q v ho₀) $$ [H0]
  · iexact H0
  iintro %x %hx' H0
  iapply (load_out c k h ho) $$ [H1]
  · iexact H1
  iintro %d H1
  rw [hx']
  iapply (store_out c k h ho v) $$ [H1]
  · iexact H1
  iintro H1
  ispecialize Hk $$ %x %d
  iapply Hk
  isplitl [H0]; · iexact H0
  iexact H1

end Cert.KernelIdeal.Talk
-- ==== Proof.Hops.lean ====
/-
# The hops of the exchange

A hop of both directions in one rule each: the barrier, the two sends, the four waits, and with them the additions of the
reduce-scatter and the pieces of the result that the all-gather leaves.
-/
module

public import proofs.«01_k».proof.Proof.Mem
public import Idealize.SL.BI.BigOpNat

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem ck_fb' : ∀ (h : Fin 2) (c : Dev nD), ∀ j < 14, ck h (fb h c) j = ck h c (j + 1) := by decide

/-- A hop of both directions before its sends, with its copies in flight, and what it leaves behind: its four counters, the
    slots the sums were sent from and the slots they landed in. -/
def ready2 (c : Dev nD) (j : ℕ) : sProp 𝕄 := iprop(ready 0 c j ∗ ready 1 c j)
def flight2 (c : Dev nD) (j : ℕ) : sProp 𝕄 := iprop(flight 0 c j ∗ flight 1 c j)
def spent (c : Dev nD) (j : ℕ) : sProp 𝕄 :=
  iprop((idle 0 c j ∗ idle 1 c j)
    ∗ (if j < 8 then iprop(held (slotM (bufM 0) (7 - j)) c ∗ held (slotM (bufM 1) (7 - j)) c) else iprop(emp))
    ∗ (if j < 7 then iprop(held (slotM (comM 0) (6 - j)) c ∗ held (slotM (comM 1) (6 - j)) c) else iprop(emp)))

variable (X : Dev nD → (cc0_stg0_0 : Ref sig .tc).ty.Contents (Elt F)) (Wt : Dev nD → (cc0_stg1_0 : Ref sig .tc).ty.Contents (Elt F))

/-- The two half chunks of the result a device has once the sources of hop `j` are in place. -/
def piece2 (c : Dev nD) (j : ℕ) : sProp 𝕄 :=
  iprop(hold (outM (ck 0 c j) 0) fullShare (outV X Wt 0 (ck 0 c j)) c ∗ hold (outM (ck 1 c j) 1) fullShare (outV X Wt 1 (ck 1 c j)) c)
/-- The sources of hop `j`, both directions. -/
def src2 (c : Dev nD) (j : ℕ) : sProp 𝕄 :=
  iprop(hold (srcM 0 c j) (shr j) (sentV X Wt 0 c j) c ∗ hold (srcM 1 c j) (shr j) (sentV X Wt 1 c j) c)

/-! ## Sources and destinations, hop by hop -/

theorem srcM_low (h : Fin 2) (c : Dev nD) {j : ℕ} (hj : j < 8) : srcM h c j = slotM (bufM h) (7 - j) := if_pos hj
theorem srcM_high (h : Fin 2) (c : Dev nD) {j : ℕ} (hj : ¬ j < 8) : srcM h c j = outM (ck h c j) h := if_neg hj
theorem dstM_low (h : Fin 2) (c : Dev nD) {j : ℕ} (hj : j < 7) : dstM h c j = slotM (comM h) (6 - j) := if_pos hj
theorem dstM_high (h : Fin 2) (c : Dev nD) {j : ℕ} (hj : ¬ j < 7) : dstM h c j = outM (ck h c j) h := if_neg hj
theorem sentV_low (h : Fin 2) (c : Dev nD) {j : ℕ} (hj : j < 7) : sentV X Wt h c j = acc X Wt h c j := if_pos hj
theorem sentV_high (h : Fin 2) (c : Dev nD) {j : ℕ} (hj : ¬ j < 7) : sentV X Wt h c j = outV X Wt h (ck h c j) := if_neg hj
theorem sentV_seven (h : Fin 2) (c : Dev nD) : acc X Wt h c 7 = sentV X Wt h c 7 := by
  rw [sentV_high X Wt h c (by omega), acc_seven]
theorem shr_of_ne {j : ℕ} (hj : j ≠ 7) : shr j = fullShare := if_neg hj

theorem src2_high (c : Dev nD) {j : ℕ} (hj : 8 ≤ j) : src2 X Wt c j = piece2 X Wt c j := by
  unfold src2 piece2
  rw [srcM_high 0 c (by omega), srcM_high 1 c (by omega), shr_of_ne (by omega), sentV_high X Wt 0 c (by omega), sentV_high X Wt 1 c (by omega)]

theorem piece2_eq (c : Dev nD) (j : ℕ) : piece2 X Wt c j
    = iprop(hold (outM (ck 0 c j) 0) fullShare (outV X Wt 0 (ck 0 c j)) c ∗ hold (outM (ck 1 c j) 1) fullShare (outV X Wt 1 (ck 1 c j)) c) := rfl
theorem src2_high' (c : Dev nD) {j : ℕ} (hj : 8 ≤ j) : iprop(sendPay X Wt 0 c j ∗ sendPay X Wt 1 c j) = piece2 X Wt c j := src2_high X Wt c hj

theorem recvPay_high (h : Fin 2) (c : Dev nD) {j : ℕ} (hj : 7 ≤ j) (hj' : j < 14) :
    recvPay X Wt h c j = hold (outM (ck h c (j + 1)) h) fullShare (outV X Wt h (ck h c (j + 1))) c := by
  unfold recvPay
  rw [dstM_high h _ (by omega), sentV_high X Wt h _ (by omega), ck_fb' h c j hj']
theorem recvPay_low (h : Fin 2) (c : Dev nD) {j : ℕ} (hj : j < 7) :
    recvPay X Wt h c j = hold (slotM (comM h) (6 - j)) fullShare (acc X Wt h (fb h c) j) c := by
  unfold recvPay
  rw [dstM_low h _ hj, sentV_low X Wt h _ hj]

theorem sendPay_low (h : Fin 2) (c : Dev nD) {j : ℕ} (hj : j < 7) :
    sendPay X Wt h c j ⊢ held (slotM (bufM h) (7 - j)) c := by
  unfold sendPay
  rw [srcM_low h c (by omega), shr_of_ne (by omega)]
  exact held_of_hold _ _ c

theorem spent_low (c : Dev nD) {j : ℕ} (hj : j < 7) :
    (spent c j : sProp 𝕄) = iprop((idle 0 c j ∗ idle 1 c j)
      ∗ (held (slotM (bufM 0) (7 - j)) c ∗ held (slotM (bufM 1) (7 - j)) c) ∗ (held (slotM (comM 0) (6 - j)) c ∗ held (slotM (comM 1) (6 - j)) c)) := by
  unfold spent
  rw [if_pos (by omega), if_pos hj]

theorem spent_seven (c : Dev nD) :
    iprop((idle 0 c 7 ∗ idle 1 c 7) ∗ (held (slotM (bufM 0) 0) c ∗ held (slotM (bufM 1) 0) c)) ⊢ (spent c 7 : sProp 𝕄) := by
  unfold spent
  rw [if_pos (by omega), if_neg (by omega)]
  iintro ⟨Hi, Hs⟩
  isplitl [Hi]; · iexact Hi
  isplitl [Hs]; · iexact Hs
  iempintro
theorem spent_high (c : Dev nD) {j : ℕ} (hj : 8 ≤ j) :
    iprop(idle 0 c j ∗ idle 1 c j) ⊢ (spent c j : sProp 𝕄) := by
  unfold spent
  rw [if_neg (by omega), if_neg (by omega)]
  iintro Hi
  isplitl [Hi]; · iexact Hi
  isplitr <;> iempintro

theorem sendPay_seven (h : Fin 2) (c : Dev nD) :
    sendPay X Wt h c 7 = hold (slotM (bufM h) 0) fullShare.left (sentV X Wt h c 7) c := rfl

/-- A whole share is its two halves. -/
theorem hold_halves (M : Memref sig .tc .vmem S256x512 .f32) (v : Vec F S256x512 .f32) (c : Dev nD) :
    (hold M fullShare v c : sProp 𝕄) ⊢ iprop(hold M fullShare.left v c ∗ hold M fullShare.right v c) := by
  unfold hold
  iintro ⟨%f, %hf, H⟩
  ihave H2 := (pointsTo_share (PosShare.mem_left_op_right fullShare)).1 $$ H
  icases H2 with ⟨HL, HR⟩
  isplitl [HL]
  · iexists f; isplitr; · ipureintro; exact hf
    iexact HL
  iexists f; isplitr; · ipureintro; exact hf
  iexact HR

/-- Every half chunk is worth the same credit. -/
theorem credit_eq (m : Memref sig .tc .vmem S256x512 .f32) : m.view.dmaCredit = N := rfl

/-- Two parts of a share make the whole. -/
theorem held_join (M : Memref sig .tc .vmem S256x512 .f32) (v w : Vec F S256x512 .f32) (c : Dev nD) :
    iprop(hold M fullShare.left v c ∗ hold M fullShare.right w c) ⊢ (held M c : sProp 𝕄) := by
  unfold hold held
  iintro ⟨⟨%f, -, HL⟩, ⟨%g, -, HR⟩⟩
  ihave H := (persistent_entails_right (pointsTo_agree (I := M.view.set) (J := M.view.set) (f := f) (g := g))) $$ [HL HR]
  · isplitl [HL]; · iexact HL
    iexact HR
  icases H with ⟨%ha, HL, HR⟩
  have hfg : ∀ i ∈ M.view.set, g i = f i := fun i hi => (ha i (Finset.mem_inter.mpr ⟨hi, hi⟩)).1.symm
  ihave HR := (Entails.of_eq (pointsTo_congr hfg)) $$ HR
  iexists f
  iapply (pointsTo_share (PosShare.mem_left_op_right fullShare)).2
  isplitl [HL]; · iexact HL
  iexact HR

variable (K : GSem nD τ sig → ℕ) (I : sProp (MT nD τ sig Unit (Elt F) ℕ UU ℕ)) [BI.Persistent I]
  (hI : ∀ g, g ∈ barCells ∪ dmaCells → (I ⊢ cellInv ER (talkRd (F := F) X Wt) (K g) g))
include hI

/-! ## The barrier -/

theorem step_barrier (c : Dev nD) {n₀ n₁ : Dev nD} (h₀ : n₀ = prv c) (h₁ : n₁ = nxt c)
    {α : Type} {Q : α → sProp 𝕄} {kk : PUnit → Prog (TpuEff nD τ sig (Elt F) Λ₀ .tc) α} :
    iprop(I ∗ levAts L lv
        ∗ (dutyTok ER (barCell (prv c)) 0 0 ∗ reached ER (barCell (prv c)) 0 ∗ barPay 0 (prv c))
        ∗ (dutyTok ER (barCell (nxt c)) 0 1 ∗ reached ER (barCell (nxt c)) 0 ∗ barPay 1 (nxt c))
        ∗ (cred (tallyAt (barCell c) () 2) ∗ atPos ER (barCell c) 0 ∅ 0)
        ∗ due c 0)
      ⊢ iprop(((barPay 0 c ∗ barPay 1 c ∗ semVal (barCell c) 0 ∗ due c 2)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.semSignal (n₀, .tc) barS (1#32 : BitVec 32).toInt) fun _ =>
               .op (.semSignal (n₁, .tc) barS (1#32 : BitVec 32).toInt) fun _ =>
               .op (.semWait barS (2#32 : BitVec 32).toInt) kk) Q) := by
  subst h₀ h₁
  unfold due
  iintro ⟨#HI, #Hlev, ⟨Ht0, #Hr0, Hp0⟩, ⟨Ht1, #Hr1, Hp1⟩, ⟨Hc, Hat⟩, ⟨%W, HO⟩⟩ Hk
  iapply (Rounds.wp_signal 𝒱₀ ER (talkRd X Wt) (c : Thread nD τ) none (dst := (prv c : Thread nD τ)) (κ := K (barCell (prv c)))
      (d := (0 : Fin 2)) (by rw [duties_bar]; exact Finset.mem_univ _) ((amount_bar X Wt (prv c) 0).trans (by decide)) ()
      (O₀ := owed c 0) (owed c 1) (owed_succ c (by decide)))
    $$ [HO Ht0 Hp0]
  · isplitr; · iapply (hI _ (mem_bar (prv c))); iexact HI
    isplitl [HO]; · iexact HO
    isplitl [Ht0]; · iexact Ht0
    isplitl [Hp0]; · iapply (Entails.of_eq (payload_bar X Wt (prv c) 0).symm); iexact Hp0
    iexact Hr0
  iintro HO
  iapply (Rounds.wp_signal 𝒱₀ ER (talkRd X Wt) (c : Thread nD τ) none (dst := (nxt c : Thread nD τ)) (κ := K (barCell (nxt c)))
      (d := (1 : Fin 2)) (by rw [duties_bar]; exact Finset.mem_univ _) ((amount_bar X Wt (nxt c) 1).trans (by decide)) ()
      (O₀ := owed c 1) (owed c 2) (owed_succ c (by decide)))
    $$ [HO Ht1 Hp1]
  · isplitr; · iapply (hI _ (mem_bar (nxt c))); iexact HI
    isplitl [HO]; · iexact HO
    isplitl [Ht1]; · iexact Ht1
    isplitl [Hp1]; · iapply (Entails.of_eq (payload_bar X Wt (nxt c) 1).symm); iexact Hp1
    iexact Hr1
  iintro HO
  iapply (Rounds.wp_wait_rest_token 𝒱₀ ER (talkRd X Wt) (c : Thread nD τ) none (κ := K (barCell c))
      (wpE_semWait_eq 𝒱₀ (c : Thread nD τ) none Set.univ) (Set.mem_univ _) () (O := owed c 2) (W := W) (R := 0) (m := 0) (T := ∅)
      (by rw [expect_bar]; decide)) $$ [Hc HO Hat]
  · isplitr; · iapply (hI _ (mem_bar c)); iexact HI
    isplitl [Hc]; · iexact Hc
    isplitl [HO]; · iexact HO
    isplitr
    · iapply (mayWait c (.reg barS) (i := 2) (by rw [lv_bar c]; decide)); iexact Hlev
    iexact Hat
  iintro ⟨HO, Hat, -, Hp⟩
  ihave Hp := (Entails.of_eq (rest_bar X Wt c)) $$ Hp
  icases Hp with ⟨Hp0, Hp1⟩
  imod (close X Wt (K (barCell c)) (barCell c)) $$ [Hat] with Hz
  · isplitr; · iapply (hI _ (mem_bar c)); iexact HI
    iexact Hat
  iapply Hk
  isplitl [Hp0]; · iexact Hp0
  isplitl [Hp1]; · iexact Hp1
  isplitl [Hz]; · iexact Hz
  iexists _; iexact HO

/-! ## The sends and the waits of a hop -/

theorem hop_send (c : Dev nD) (j : ℕ) (hj : j < 14)
    {s₀ : Memref sig .tc .vmem S256x512 .f32} (hs₀ : s₀ = srcM 0 c j) {n₀ : Dev nD} (hn₀ : n₀ = nb 0 c)
    {d₀ : Memref sig (Dev.tc n₀ : Thread nD τ).2.kind .vmem S256x512 .f32} (hd₀ : d₀ = dstM 0 c j)
    {a₀ b₀ : DmaSem sig} (ha₀ : a₀ = sendS 0 j) (hb₀ : b₀ = recvS 0 j)
    {s₁ : Memref sig .tc .vmem S256x512 .f32} (hs₁ : s₁ = srcM 1 c j) {n₁ : Dev nD} (hn₁ : n₁ = nb 1 c)
    {d₁ : Memref sig (Dev.tc n₁ : Thread nD τ).2.kind .vmem S256x512 .f32} (hd₁ : d₁ = dstM 1 c j)
    {a₁ b₁ : DmaSem sig} (ha₁ : a₁ = sendS 1 j) (hb₁ : b₁ = recvS 1 j)
    {c₀ x₀ y₀ t₀ c₁ x₁ y₁ t₁}
    {α : Type} {Q : α → sProp 𝕄} {kk : PUnit → Prog (TpuEff nD τ sig (Elt F) Λ₀ .tc) α} :
    iprop(I ∗ bigSep (Finset.Ico j 14) (ready2 c) ∗ src2 X Wt c j ∗ due c (2 + 2 * j))
      ⊢ iprop(((flight2 c j ∗ bigSep (Finset.Ico (j + 1) 14) (ready2 c) ∗ due c (2 + 2 * (j + 1)))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma s₀ (.remote (Dev.tc n₀ : Thread nD τ) d₀ (.dma a₀) c₀) (.dma b₀) x₀ y₀ t₀) fun _ =>
               .op (.enqueueDma s₁ (.remote (Dev.tc n₁ : Thread nD τ) d₁ (.dma a₁) c₁) (.dma b₁) x₁ y₁ t₁) kk) Q) := by
  rw [BI.bigSep_Ico_succ_bot hj]
  unfold ready2 src2 flight2
  iintro ⟨#HI, ⟨⟨Hr0, Hr1⟩, Hrest⟩, ⟨Hs0, Hs1⟩, HO⟩ Hk
  iapply (step_send X Wt K I hI 0 c hj hs₀ hn₀ hd₀ ha₀ hb₀) $$ [Hr0 Hs0 HO]
  · isplitr; · iexact HI
    isplitl [Hr0]; · iexact Hr0
    isplitl [Hs0]; · iexact Hs0
    iexact HO
  iintro ⟨Hf0, HO⟩
  iapply (step_send X Wt K I hI 1 c hj hs₁ hn₁ hd₁ ha₁ hb₁) $$ [Hr1 Hs1 HO]
  · isplitr; · iexact HI
    isplitl [Hr1]; · iexact Hr1
    isplitl [Hs1]; · iexact Hs1
    iexact HO
  iintro ⟨Hf1, HO⟩
  iapply Hk
  isplitl [Hf0 Hf1]
  · isplitl [Hf0]; · iexact Hf0
    iexact Hf1
  isplitl [Hrest]; · iexact Hrest
  iexact HO

theorem hop_wait (c : Dev nD) (j : ℕ) (hj : j < 14)
    {a₀ b₀ : DmaSem sig} (ha₀ : a₀ = sendS 0 j) (hb₀ : b₀ = recvS 0 j)
    {a₁ b₁ : DmaSem sig} (ha₁ : a₁ = sendS 1 j) (hb₁ : b₁ = recvS 1 j)
    {s₀ d₀ s₀' d₀' s₁ d₁ s₁' d₁' : Memref sig .tc .vmem S256x512 .f32}
    {x₀ y₀ x₀' y₀' x₁ y₁ x₁' y₁'}
    {α : Type} {Q : α → sProp 𝕄} {kk : PUnit → Prog (TpuEff nD τ sig (Elt F) Λ₀ .tc) α} :
    iprop(I ∗ levAts L lv ∗ flight2 c j ∗ due c (2 + 2 * (j + 1)))
      ⊢ iprop((((sendPay X Wt 0 c j ∗ sendPay X Wt 1 c j) ∗ (recvPay X Wt 0 c j ∗ recvPay X Wt 1 c j) ∗ (idle 0 c j ∗ idle 1 c j) ∗ due c (2 + 2 * (j + 1)))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 a₀ s₀ d₀ x₀ y₀) fun _ => .op (.waitDma2 b₀ s₀' d₀' x₀' y₀') fun _ =>
               .op (.waitDma2 a₁ s₁ d₁ x₁ y₁) fun _ => .op (.waitDma2 b₁ s₁' d₁' x₁' y₁') kk) Q) := by
  unfold flight2
  iintro ⟨#HI, #Hlev, ⟨Hf0, Hf1⟩, HO⟩ Hk
  iapply (step_waits X Wt K I hI 0 c (i := 2 + 2 * (j + 1)) hj (by omega) ha₀ hb₀ (credit_eq _) (credit_eq _)) $$ [Hf0 HO]
  · isplitr; · iexact HI
    isplitr; · iexact Hlev
    isplitl [Hf0]; · iexact Hf0
    iexact HO
  iintro ⟨Hs0, Hr0, Hi0, HO⟩
  iapply (step_waits X Wt K I hI 1 c (i := 2 + 2 * (j + 1)) hj (by omega) ha₁ hb₁ (credit_eq _) (credit_eq _)) $$ [Hf1 HO]
  · isplitr; · iexact HI
    isplitr; · iexact Hlev
    isplitl [Hf1]; · iexact Hf1
    iexact HO
  iintro ⟨Hs1, Hr1, Hi1, HO⟩
  iapply Hk
  isplitl [Hs0 Hs1]; · isplitl [Hs0]; · iexact Hs0
                       iexact Hs1
  isplitl [Hr0 Hr1]; · isplitl [Hr0]; · iexact Hr0
                       iexact Hr1
  isplitl [Hi0 Hi1]; · isplitl [Hi0]; · iexact Hi0
                       iexact Hi1
  iexact HO

/-- A hop of the reduce-scatter from its waits on: what came is added to the next chunk's own products. -/
theorem hop_reduce (c : Dev nD) (j : ℕ) (hj : j < 7)
    {a₀ b₀ : DmaSem sig} (ha₀ : a₀ = sendS 0 j) (hb₀ : b₀ = recvS 0 j)
    {a₁ b₁ : DmaSem sig} (ha₁ : a₁ = sendS 1 j) (hb₁ : b₁ = recvS 1 j)
    {s₀ d₀ s₀' d₀' s₁ d₁ s₁' d₁' : Memref sig .tc .vmem S256x512 .f32}
    {x₀ y₀ x₀' y₀' x₁ y₁ x₁' y₁'}
    {o : Fin 3 → ℕ} (ho : o = ![(6 - j) % 8, 0, 0]) {hi : ∀ a, o a + S1x256x512.size a ≤ S8x256x512.size a}
    {l₀ l₁ l₂ z m l₀' l₁' l₂' z' m'}
    {α : Type} {Q : α → sProp 𝕄} {kk : Vec F S1x256x512 .f32 → Vec F S1x256x512 .f32 → Vec F S1x256x512 .f32 → Vec F S1x256x512 .f32 → Vec F S1x256x512 .f32 → Vec F S1x256x512 .f32 → PUnit → Prog (TpuEff nD τ sig (Elt F) Λ₀ .tc) α} :
    iprop(I ∗ levAts L lv ∗ flight2 c j ∗ bigSep (Finset.range j) (spent c) ∗ due c (2 + 2 * (j + 1))
        ∗ hold (slotM (bufM 0) (6 - j)) fullShare (halfP X Wt 0 c (ck 0 c (j + 1))) c ∗ hold (slotM (bufM 1) (6 - j)) fullShare (halfP X Wt 1 c (ck 1 c (j + 1))) c)
      ⊢ iprop((∀ (u v w u' v' w' : Vec F S1x256x512 .f32), ((hold (srcM 0 c (j + 1)) fullShare (sentV X Wt 0 c (j + 1)) c ∗ hold (srcM 1 c (j + 1)) fullShare (sentV X Wt 1 c (j + 1)) c)
              ∗ bigSep (Finset.range (j + 1)) (spent c) ∗ due c (2 + 2 * (j + 1)))
            -∗ wp frame (wpE (defs₀ (F := F)) 𝒱₀ (c : Thread nD τ) none) Set.univ (kk u v w u' v' w' ⟨⟩) Q)
          -∗ wp frame (wpE (defs₀ (F := F)) 𝒱₀ (c : Thread nD τ) none) Set.univ
              (.op (.waitDma2 a₀ s₀ d₀ x₀ y₀) fun _ => .op (.waitDma2 b₀ s₀' d₀' x₀' y₀') fun _ =>
               .op (.waitDma2 a₁ s₁ d₁ x₁ y₁) fun _ => .op (.waitDma2 b₁ s₁' d₁' x₁' y₁') fun _ =>
               .op (.load (Memref.whole cc0_scratch0) (Rect.unit (s := S8x256x512) o S1x256x512.size hi).toLoadRect l₀) fun u =>
               .op (.load (Memref.whole cc0_scratch2) (Rect.unit (s := S8x256x512) o S1x256x512.size hi).toLoadRect l₁) fun v =>
               .op (.load (Memref.whole cc0_scratch0) (Rect.unit (s := S8x256x512) o S1x256x512.size hi).toLoadRect l₂) fun w =>
               .op (.store (Memref.whole cc0_scratch0) (Rect.unit (s := S8x256x512) o S1x256x512.size hi)
                  (shapeCast S1x256x512 (addf (shapeCast S256x512 u shapeCasts_S1x256x512_S256x512) (shapeCast S256x512 v shapeCasts_S1x256x512_S256x512))
                    shapeCasts_S256x512_S1x256x512) Finset.univ z m) fun _ =>
               .op (.load (Memref.whole cc0_scratch1) (Rect.unit (s := S8x256x512) o S1x256x512.size hi).toLoadRect l₀') fun u' =>
               .op (.load (Memref.whole cc0_scratch3) (Rect.unit (s := S8x256x512) o S1x256x512.size hi).toLoadRect l₁') fun v' =>
               .op (.load (Memref.whole cc0_scratch1) (Rect.unit (s := S8x256x512) o S1x256x512.size hi).toLoadRect l₂') fun w' =>
               .op (.store (Memref.whole cc0_scratch1) (Rect.unit (s := S8x256x512) o S1x256x512.size hi)
                  (shapeCast S1x256x512 (addf (shapeCast S256x512 u' shapeCasts_S1x256x512_S256x512) (shapeCast S256x512 v' shapeCasts_S1x256x512_S256x512))
                    shapeCasts_S256x512_S1x256x512) Finset.univ z' m') (kk u v w u' v' w')) Q) := by
  have hsV : ∀ h : Fin 2, addf (halfP X Wt h c (ck h c (j + 1))) (acc X Wt h (fb h c) j) = sentV X Wt h c (j + 1) := fun h => by
    show acc X Wt h c (j + 1) = _
    by_cases h6 : j + 1 < 7
    · rw [sentV_low X Wt h c h6]
    · have : j + 1 = 7 := by omega
      rw [this, sentV_seven]
  have hsM : ∀ h : Fin 2, srcM h c (j + 1) = slotM (bufM h) (6 - j) := fun h => by
    rw [srcM_low h c (by omega), show 7 - (j + 1) = 6 - j by omega]
  have hsE : ∀ h : Fin 2, (hold (slotM (bufM h) (6 - j)) fullShare (addf (halfP X Wt h c (ck h c (j + 1))) (acc X Wt h (fb h c) j)) c : sProp 𝕄)
      = hold (srcM h c (j + 1)) fullShare (sentV X Wt h c (j + 1)) c := fun h => by rw [hsV h, hsM h]
  iintro ⟨#HI, #Hlev, Hf, Hsp, HO, Hb0, Hb1⟩ Hk
  iapply (hop_wait X Wt K I hI c j (by omega) ha₀ hb₀ ha₁ hb₁) $$ [Hf HO]
  · isplitr; · iexact HI
    isplitr; · iexact Hlev
    isplitl [Hf]; · iexact Hf
    iexact HO
  iintro ⟨⟨Hs0, Hs1⟩, ⟨Hr0, Hr1⟩, Hi, HO⟩
  ihave Hr0 := (Entails.of_eq (recvPay_low X Wt 0 c hj)) $$ Hr0
  ihave Hr1 := (Entails.of_eq (recvPay_low X Wt 1 c hj)) $$ Hr1
  ihave Hs0 := (sendPay_low X Wt 0 c hj) $$ Hs0
  ihave Hs1 := (sendPay_low X Wt 1 c hj) $$ Hs1
  iapply (step_add c (Memref.whole cc0_scratch0) (Memref.whole cc0_scratch2) (6 - j) (6 - j) (halfP X Wt 0 c (ck 0 c (j + 1))) (acc X Wt 0 (fb 0 c) j) ho ho) $$ [Hb0 Hr0]
  · isplitl [Hb0]; · iexact Hb0
    iexact Hr0
  iintro %u %v %w ⟨Hb0, Hr0⟩
  iapply (step_add c (Memref.whole cc0_scratch1) (Memref.whole cc0_scratch3) (6 - j) (6 - j) (halfP X Wt 1 c (ck 1 c (j + 1))) (acc X Wt 1 (fb 1 c) j) ho ho) $$ [Hb1 Hr1]
  · isplitl [Hb1]; · iexact Hb1
    iexact Hr1
  iintro %u' %v' %w' ⟨Hb1, Hr1⟩
  ispecialize Hk $$ %u %v %w %u' %v' %w'
  iapply Hk
  isplitl [Hb0 Hb1]
  · isplitl [Hb0]
    · iapply (Entails.of_eq (hsE 0)); iexact Hb0
    · iapply (Entails.of_eq (hsE 1)); iexact Hb1
  isplitr [HO]
  · iapply (Entails.of_eq (BI.bigSep_range_succ j _).symm)
    isplitr [Hsp]; rotate_left; · iexact Hsp
    iapply (Entails.of_eq (spent_low c hj).symm)
    isplitl [Hi]; · iexact Hi
    isplitl [Hs0 Hs1]
    · isplitl [Hs0]; · iexact Hs0
      iexact Hs1
    isplitl [Hr0]
    · iexact Hr0
    · iexact Hr1
  iexact HO

/-- The first hop of the all-gather, from its waits on: the sums come back whole, and the next pieces of the result are in. -/
theorem hop_first (c : Dev nD)
    {a₀ b₀ : DmaSem sig} (ha₀ : a₀ = sendS 0 7) (hb₀ : b₀ = recvS 0 7)
    {a₁ b₁ : DmaSem sig} (ha₁ : a₁ = sendS 1 7) (hb₁ : b₁ = recvS 1 7)
    {s₀ d₀ s₀' d₀' s₁ d₁ s₁' d₁' : Memref sig .tc .vmem S256x512 .f32}
    {x₀ y₀ x₀' y₀' x₁ y₁ x₁' y₁'}
    {α : Type} {Q : α → sProp 𝕄} {kk : PUnit → Prog (TpuEff nD τ sig (Elt F) Λ₀ .tc) α} :
    iprop(I ∗ levAts L lv ∗ flight2 c 7 ∗ bigSep (Finset.range 7) (spent c) ∗ due c (2 + 2 * (7 + 1))
        ∗ hold (slotM (bufM 0) 0) fullShare.right (sentV X Wt 0 c 7) c ∗ hold (slotM (bufM 1) 0) fullShare.right (sentV X Wt 1 c 7) c)
      ⊢ iprop(((src2 X Wt c 8 ∗ bigSep (Finset.range 8) (spent c) ∗ due c (2 + 2 * (7 + 1)))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 a₀ s₀ d₀ x₀ y₀) fun _ => .op (.waitDma2 b₀ s₀' d₀' x₀' y₀') fun _ =>
               .op (.waitDma2 a₁ s₁ d₁ x₁ y₁) fun _ => .op (.waitDma2 b₁ s₁' d₁' x₁' y₁') kk) Q) := by
  iintro ⟨#HI, #Hlev, Hf, Hsp, HO, Hq0, Hq1⟩ Hk
  iapply (hop_wait X Wt K I hI c 7 (by omega) ha₀ hb₀ ha₁ hb₁) $$ [Hf HO]
  · isplitr; · iexact HI
    isplitr; · iexact Hlev
    isplitl [Hf]; · iexact Hf
    iexact HO
  iintro ⟨⟨Hs0, Hs1⟩, ⟨Hr0, Hr1⟩, Hi, HO⟩
  ihave Hr0 := (Entails.of_eq (recvPay_high X Wt 0 c (le_refl 7) (by decide))) $$ Hr0
  ihave Hr1 := (Entails.of_eq (recvPay_high X Wt 1 c (le_refl 7) (by decide))) $$ Hr1
  iapply Hk
  isplitl [Hr0 Hr1]
  · iapply (Entails.of_eq ((src2_high X Wt c (le_refl 8)).trans (piece2_eq X Wt c 8)).symm)
    isplitl [Hr0]; · iexact Hr0
    iexact Hr1
  isplitr [HO]
  · iapply (Entails.of_eq (BI.bigSep_range_succ 7 _).symm)
    isplitr [Hsp]; rotate_left; · iexact Hsp
    iapply (spent_seven c)
    isplitl [Hi]; · iexact Hi
    isplitl [Hs0 Hq0]
    · iapply (held_join _ (sentV X Wt 0 c 7) (sentV X Wt 0 c 7) c)
      isplitl [Hs0]; · iapply (Entails.of_eq (sendPay_seven X Wt 0 c)); iexact Hs0
      iexact Hq0
    · iapply (held_join _ (sentV X Wt 1 c 7) (sentV X Wt 1 c 7) c)
      isplitl [Hs1]; · iapply (Entails.of_eq (sendPay_seven X Wt 1 c)); iexact Hs1
      iexact Hq1
  iexact HO

/-- A later hop of the all-gather, from its waits on. -/
theorem hop_gather (c : Dev nD) (j : ℕ) (hj : 8 ≤ j) (hj' : j < 14)
    {a₀ b₀ : DmaSem sig} (ha₀ : a₀ = sendS 0 j) (hb₀ : b₀ = recvS 0 j)
    {a₁ b₁ : DmaSem sig} (ha₁ : a₁ = sendS 1 j) (hb₁ : b₁ = recvS 1 j)
    {s₀ d₀ s₀' d₀' s₁ d₁ s₁' d₁' : Memref sig .tc .vmem S256x512 .f32}
    {x₀ y₀ x₀' y₀' x₁ y₁ x₁' y₁'}
    {α : Type} {Q : α → sProp 𝕄} {kk : PUnit → Prog (TpuEff nD τ sig (Elt F) Λ₀ .tc) α} :
    iprop(I ∗ levAts L lv ∗ flight2 c j ∗ bigSep (Finset.range j) (spent c) ∗ due c (2 + 2 * (j + 1)) ∗ bigSep (Finset.Ico 7 j) (piece2 X Wt c))
      ⊢ iprop(((src2 X Wt c (j + 1) ∗ bigSep (Finset.range (j + 1)) (spent c) ∗ due c (2 + 2 * (j + 1)) ∗ bigSep (Finset.Ico 7 (j + 1)) (piece2 X Wt c))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 a₀ s₀ d₀ x₀ y₀) fun _ => .op (.waitDma2 b₀ s₀' d₀' x₀' y₀') fun _ =>
               .op (.waitDma2 a₁ s₁ d₁ x₁ y₁) fun _ => .op (.waitDma2 b₁ s₁' d₁' x₁' y₁') kk) Q) := by
  iintro ⟨#HI, #Hlev, Hf, Hsp, HO, Hp⟩ Hk
  iapply (hop_wait X Wt K I hI c j hj' ha₀ hb₀ ha₁ hb₁) $$ [Hf HO]
  · isplitr; · iexact HI
    isplitr; · iexact Hlev
    isplitl [Hf]; · iexact Hf
    iexact HO
  iintro ⟨Hs, ⟨Hr0, Hr1⟩, Hi, HO⟩
  ihave Hr0 := (Entails.of_eq (recvPay_high X Wt 0 c (show 7 ≤ j by omega) hj')) $$ Hr0
  ihave Hr1 := (Entails.of_eq (recvPay_high X Wt 1 c (show 7 ≤ j by omega) hj')) $$ Hr1
  ihave Hs := (Entails.of_eq (src2_high' X Wt c hj)) $$ Hs
  iapply Hk
  isplitl [Hr0 Hr1]
  · iapply (Entails.of_eq ((src2_high X Wt c (show 8 ≤ j + 1 by omega)).trans (piece2_eq X Wt c (j + 1))).symm)
    isplitl [Hr0]; · iexact Hr0
    iexact Hr1
  isplitl [Hi Hsp]
  · iapply (Entails.of_eq (BI.bigSep_range_succ j _).symm)
    isplitr [Hsp]; rotate_left; · iexact Hsp
    iapply (spent_high c hj)
    iexact Hi
  isplitl [HO]; · iexact HO
  iapply (Entails.of_eq (BI.bigSep_Ico_succ_top (show 7 ≤ j by omega) _).symm)
  isplitl [Hs]; · iexact Hs
  iexact Hp

end Cert.KernelIdeal.Talk
-- ==== Proof.Body.lean ====
/-
# The body of the exchange, run once at a symbolic device
-/
module

public import proofs.«01_k».proof.Proof.Hops

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem dev_nxt (c : Dev nD) {n : ℕ} {h : n < nD} (e : n = (c.val + 1) % 8) : (⟨n, h⟩ : Dev nD) = nxt c := Fin.ext e
theorem dev_prv (c : Dev nD) {n : ℕ} {h : n < nD} (e : n = (c.val + 7) % 8) : (⟨n, h⟩ : Dev nD) = prv c := Fin.ext e
theorem off1_ck (c : Dev nD) (r : Fin 8) : k0_off1 c (BitVec.ofNat 32 r.val) = ![256 * (ck 0 c r.val).val, 0] :=
  (k0_off1_eq c r).trans (by revert c r; decide)
theorem off2_ck (c : Dev nD) (r : Fin 7) : k0_off2 c (BitVec.ofNat 32 r.val) = ![256 * (ck 0 c (7 + r.val)).val, 512 * (0 : Fin 2).val] :=
  (k0_off2_eq c r).trans (by revert c r; decide)
theorem off3_ck (c : Dev nD) (r : Fin 7) : k0_off3 c (BitVec.ofNat 32 r.val) = ![256 * (ck 1 c (7 + r.val)).val, 512 * (1 : Fin 2).val] :=
  (k0_off3_eq c r).trans (by revert c r; decide)
theorem off4_ck (c : Dev nD) : k0_off4 c = ![256 * (ck 0 c 7).val, 512 * (0 : Fin 2).val] :=
  (k0_off4_eq c).trans (by revert c; decide)
theorem off5_ck (c : Dev nD) : k0_off5 c = ![256 * (ck 1 c 7).val, 512 * (1 : Fin 2).val] :=
  (k0_off5_eq c).trans (by revert c; decide)
theorem ck_flip : ∀ (c : Dev nD) (m : ℕ), m < 8 → ck 0 c m = ck 1 c ((8 - m) % 8) := by decide

variable (X : Dev nD → (cc0_stg0_0 : Ref sig .tc).ty.Contents (Elt F)) (Wt : Dev nD → (cc0_stg1_0 : Ref sig .tc).ty.Contents (Elt F))

theorem src2_intro (c : Dev nD) (j : ℕ) (hj : j ≠ 7) :
    iprop(hold (srcM 0 c j) fullShare (sentV X Wt 0 c j) c ∗ hold (srcM 1 c j) fullShare (sentV X Wt 1 c j) c) ⊢ src2 X Wt c j := by
  unfold src2; rw [shr_of_ne hj]
theorem src2_zero (c : Dev nD) :
    iprop(hold (slotM (bufM 0) 7) fullShare (halfP X Wt 0 c (ck 0 c 0)) c ∗ hold (slotM (bufM 1) 7) fullShare (halfP X Wt 1 c (ck 1 c 0)) c) ⊢ src2 X Wt c 0 :=
  src2_intro X Wt c 0 (by decide)
/-- The finished half chunks, of which a half share is lent to the first hop of the all-gather. -/
theorem src2_seven (c : Dev nD) :
    iprop(hold (srcM 0 c 7) fullShare (sentV X Wt 0 c 7) c ∗ hold (srcM 1 c 7) fullShare (sentV X Wt 1 c 7) c)
      ⊢ iprop(src2 X Wt c 7 ∗ hold (slotM (bufM 0) 0) fullShare.right (sentV X Wt 0 c 7) c ∗ hold (slotM (bufM 1) 0) fullShare.right (sentV X Wt 1 c 7) c) := by
  iintro ⟨H0, H1⟩
  ihave H0 := (hold_halves _ _ c) $$ H0
  ihave H1 := (hold_halves _ _ c) $$ H1
  icases H0 with ⟨HL0, HR0⟩
  icases H1 with ⟨HL1, HR1⟩
  unfold src2
  isplitl [HL0 HL1]
  · isplitl [HL0]; · iexact HL0
    iexact HL1
  isplitl [HR0]; · iexact HR0
  iexact HR1

/-- What the body is given of the protocol: the two barrier duties with what they pay, its own barrier cell, the hops. -/
def given (c : Dev nD) : sProp 𝕄 :=
  iprop((dutyTok ER (barCell (prv c)) 0 0 ∗ reached ER (barCell (prv c)) 0 ∗ barPay 0 (prv c))
    ∗ (dutyTok ER (barCell (nxt c)) 0 1 ∗ reached ER (barCell (nxt c)) 0 ∗ barPay 1 (nxt c))
    ∗ (cred (tallyAt (barCell c) () 2) ∗ atPos ER (barCell c) 0 ∅ 0)
    ∗ bigSep (Finset.range 14) fun j => iprop(hop 0 c j ∗ hop 1 c j))
/-- Its own blank buffers: the eight slots of partial sums of each direction and the half chunks of the result it fills itself. -/
def blank (c : Dev nD) : sProp 𝕄 :=
  iprop((bigSep (Finset.range 8) fun k => held (slotM (bufM 0) k) c) ∗ (bigSep (Finset.range 8) fun k => held (slotM (bufM 1) k) c)
    ∗ held (outM (ck 0 c 7) 0) c ∗ held (outM (ck 1 c 7) 1) c)

theorem hops_pair (c : Dev nD) (j : ℕ) :
    iprop((hop 0 c j ∗ hop 1 c j) ∗ (held (dstM 0 c j) (nb 0 c) ∗ reached ER (recvCell 0 (nb 0 c) j) 0)
        ∗ (held (dstM 1 c j) (nb 1 c) ∗ reached ER (recvCell 1 (nb 1 c) j) 0)) ⊢ (ready2 c j : sProp 𝕄) := by
  unfold ready2 ready
  iintro ⟨⟨H0, H1⟩, ⟨Ha, Hb⟩, Hc, Hd⟩
  isplitl [H0 Ha Hb]
  · isplitl [H0]; · iexact H0
    isplitl [Ha]; · iexact Ha
    iexact Hb
  isplitl [H1]; · iexact H1
  isplitl [Hc]; · iexact Hc
  iexact Hd

/-- A chunk of one direction is a chunk of the other. -/
theorem flip_eq (c : Dev nD) (m m₁ : ℕ) (h : ck 0 c m = ck 1 c m₁) (M : Memref sig .tc .vmem S256x512 .f32) :
    (hold M fullShare (halfP X Wt 1 c (ck 0 c m)) c : sProp 𝕄) = hold M fullShare (halfP X Wt 1 c (ck 1 c m₁)) c := by rw [h]

/-- The hops with what the barrier brought are ready. -/
theorem hops_ready (c : Dev nD) :
    iprop((bigSep (Finset.range 14) fun j => iprop(hop 0 c j ∗ hop 1 c j)) ∗ barPay 0 c ∗ barPay 1 c) ⊢ (bigSep (Finset.Ico 0 14) (ready2 c) : sProp 𝕄) := by
  unfold barPay
  rw [← bigSep_sep', ← bigSep_sep', ← Finset.range_eq_Ico]
  refine bigSep_mono fun j _ => ?_
  exact hops_pair c j

theorem eight_eq (Φ : ℕ → sProp (MT nD τ sig Unit (Elt F) ℕ UU ℕ)) :
    bigSep (Finset.range 8) Φ = iprop(Φ 0 ∗ Φ 1 ∗ Φ 2 ∗ Φ 3 ∗ Φ 4 ∗ Φ 5 ∗ Φ 6 ∗ Φ 7) := by
  rw [Finset.range_eq_Ico]
  rw [BI.bigSep_Ico_succ_bot (by decide), BI.bigSep_Ico_succ_bot (by decide), BI.bigSep_Ico_succ_bot (by decide), BI.bigSep_Ico_succ_bot (by decide),
    BI.bigSep_Ico_succ_bot (by decide), BI.bigSep_Ico_succ_bot (by decide), BI.bigSep_Ico_succ_bot (by decide)]
  exact congrArg _ (congrArg _ (congrArg _ (congrArg _ (congrArg _ (congrArg _ (congrArg _ (BI.bigSep_Ico_one 7 Φ)))))))

theorem piece2_seven (c : Dev nD) :
    iprop(hold (outM (ck 0 c 7) 0) fullShare (sentV X Wt 0 c 7) c ∗ hold (outM (ck 1 c 7) 1) fullShare (sentV X Wt 1 c 7) c)
      ⊢ bigSep (Finset.Ico 7 8) (piece2 X Wt c) := by
  rw [BI.bigSep_Ico_one 7]
  exact Entails.of_eq rfl
theorem piece2_last (c : Dev nD) :
    iprop(bigSep (Finset.Ico 7 14) (piece2 X Wt c) ∗ src2 X Wt c 14) ⊢ bigSep (Finset.Ico 7 15) (piece2 X Wt c) := by
  rw [BI.bigSep_Ico_succ_top (show 7 ≤ 14 by decide), src2_high X Wt c (by decide)]
  exact sep_comm

variable (K : GSem nD τ sig → ℕ) (I : sProp (MT nD τ sig Unit (Elt F) ℕ UU ℕ)) [BI.Persistent I]
  (hI : ∀ g, g ∈ barCells ∪ dmaCells → (I ⊢ cellInv ER (talkRd (F := F) X Wt) (K g) g))
include hI

set_option maxHeartbeats 4000000 in
set_option maxRecDepth 20000 in
theorem body_run (c : Dev nD) (Kt : PUnit → sProp 𝕄) :
    iprop(I ∗ levAts L lv ∗ given c ∗ blank c ∗ blocks X Wt c ∗ due c 0
        ∗ ((blocks X Wt c ∗ bigSep (Finset.range 14) (spent c) ∗ bigSep (Finset.Ico 7 15) (piece2 X Wt c) ∗ semVal (barCell c) 0 ∗ due c 30) -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _) cc0_scratch4 cc0_scratch5 cc0_scratch6) Kt := by
  simp only [cc0_body_eq_skeleton]; unfold cc0_body_skel
  simp only [k0_part39_eq_skeleton]; unfold k0_part39_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel
  simp only [semSignalWord, semWaitWord, Prog.lift, Prog.bind_op, Prog.bind_ret, Prog.pure_eq_ret, Prog.bind_assoc, wp_deviceId]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48]
  unfold given blank
  iintro ⟨#HI, #Hlev, ⟨Hg0, Hg1, Hg2, Hhops⟩, ⟨Ha, Hb, Ho0, Ho1⟩, HX, HO, Hk⟩
  ihave Ha := (Entails.of_eq (eight_eq _)) $$ Ha
  ihave Hb := (Entails.of_eq (eight_eq _)) $$ Hb
  icases Ha with ⟨Ha0, Ha1, Ha2, Ha3, Ha4, Ha5, Ha6, Ha7⟩
  icases Hb with ⟨Hb0, Hb1, Hb2, Hb3, Hb4, Hb5, Hb6, Hb7⟩
  -- the barrier
  iapply (step_barrier X Wt K I hI c (dev_prv c (k0_dev1_eq c)) (dev_nxt c (k0_dev2_eq c))) $$ [Hg0 Hg1 Hg2 HO]
  · isplitr; · iexact HI
    isplitr; · iexact Hlev
    isplitl [Hg0]; · iexact Hg0
    isplitl [Hg1]; · iexact Hg1
    isplitl [Hg2]; · iexact Hg2
    iexact HO
  iintro ⟨Hp0, Hp1, Hbar, HO⟩
  ihave Hr := (hops_ready c) $$ [Hhops Hp0 Hp1]
  · isplitl [Hhops]; · iexact Hhops
    isplitl [Hp0]; · iexact Hp0
    iexact Hp1
  -- the products of chunk 0
  iapply (step_prod X Wt c (ck 0 c 0) 7 7 (off1_ck c 0) rfl rfl) $$ [HX Ha7 Hb7]
  · isplitl [HX]; · iexact HX
    isplitl [Ha7]; · iexact Ha7
    iexact Hb7
  iintro %_ %_ %_ %_ ⟨HX, Ha7, Hb7⟩
  ihave Hb7 := (Entails.of_eq (flip_eq X Wt c 0 0 (ck_flip c 0 (by decide)) _)) $$ Hb7
  ihave Hs := (src2_zero X Wt c) $$ [Ha7 Hb7]
  · isplitl [Ha7]; · iexact Ha7
    iexact Hb7
  -- the copies of hop 0
  iapply (hop_send X Wt K I hI c 0 (by decide) rfl (dev_nxt c (k0_dev3_eq c)) rfl rfl rfl rfl (dev_prv c (k0_dev4_eq c)) rfl rfl rfl) $$ [Hr Hs HO]
  · isplitr; · iexact HI
    isplitl [Hr]; · iexact Hr
    isplitl [Hs]; · iexact Hs
    iexact HO
  iintro ⟨Hf, Hr, HO⟩
  ihave Hsp : (bigSep (Finset.range 0) (spent (F := F) c)) $$ []
  · rw [Finset.range_zero, BI.bigSep_empty]; iempintro
  -- the products of chunk 1
  iapply (step_prod X Wt c (ck 0 c 1) 6 0 (off1_ck c 1) rfl rfl) $$ [HX Ha6 Hb0]
  · isplitl [HX]; · iexact HX
    isplitl [Ha6]; · iexact Ha6
    iexact Hb0
  iintro %_ %_ %_ %_ ⟨HX, Ha6, Hb0⟩
  ihave Hb0 := (Entails.of_eq (flip_eq X Wt c 1 7 (ck_flip c 1 (by decide)) _)) $$ Hb0
  -- the products of chunk 7
  iapply (step_prod X Wt c (ck 0 c 7) 0 6 (off1_ck c 7) rfl rfl) $$ [HX Ha0 Hb6]
  · isplitl [HX]; · iexact HX
    isplitl [Ha0]; · iexact Ha0
    iexact Hb6
  iintro %_ %_ %_ %_ ⟨HX, Ha0, Hb6⟩
  ihave Hb6 := (Entails.of_eq (flip_eq X Wt c 7 1 (ck_flip c 7 (by decide)) _)) $$ Hb6
  iapply (hop_reduce X Wt K I hI c 0 (by decide) rfl rfl rfl rfl rfl) $$ [Hf Hsp HO Ha6 Hb6]
  · isplitr; · iexact HI
    isplitr; · iexact Hlev
    isplitl [Hf]; · iexact Hf
    isplitl [Hsp]; · iexact Hsp
    isplitl [HO]; · iexact HO
    isplitl [Ha6]; · iexact Ha6
    iexact Hb6
  iintro %_ %_ %_ %_ %_ %_ ⟨Hs, Hsp, HO⟩
  ihave Hs := (src2_intro X Wt c 1 (by decide)) $$ Hs
  -- the copies of hop 1
  iapply (hop_send X Wt K I hI c 1 (by decide) rfl (dev_nxt c (k0_dev5_eq c)) rfl rfl rfl rfl (dev_prv c (k0_dev6_eq c)) rfl rfl rfl) $$ [Hr Hs HO]
  · isplitr; · iexact HI
    isplitl [Hr]; · iexact Hr
    isplitl [Hs]; · iexact Hs
    iexact HO
  iintro ⟨Hf, Hr, HO⟩
  -- the products of chunk 2
  iapply (step_prod X Wt c (ck 0 c 2) 5 1 (off1_ck c 2) rfl rfl) $$ [HX Ha5 Hb1]
  · isplitl [HX]; · iexact HX
    isplitl [Ha5]; · iexact Ha5
    iexact Hb1
  iintro %_ %_ %_ %_ ⟨HX, Ha5, Hb1⟩
  ihave Hb1 := (Entails.of_eq (flip_eq X Wt c 2 6 (ck_flip c 2 (by decide)) _)) $$ Hb1
  -- the products of chunk 6
  iapply (step_prod X Wt c (ck 0 c 6) 1 5 (off1_ck c 6) rfl rfl) $$ [HX Ha1 Hb5]
  · isplitl [HX]; · iexact HX
    isplitl [Ha1]; · iexact Ha1
    iexact Hb5
  iintro %_ %_ %_ %_ ⟨HX, Ha1, Hb5⟩
  ihave Hb5 := (Entails.of_eq (flip_eq X Wt c 6 2 (ck_flip c 6 (by decide)) _)) $$ Hb5
  iapply (hop_reduce X Wt K I hI c 1 (by decide) rfl rfl rfl rfl rfl) $$ [Hf Hsp HO Ha5 Hb5]
  · isplitr; · iexact HI
    isplitr; · iexact Hlev
    isplitl [Hf]; · iexact Hf
    isplitl [Hsp]; · iexact Hsp
    isplitl [HO]; · iexact HO
    isplitl [Ha5]; · iexact Ha5
    iexact Hb5
  iintro %_ %_ %_ %_ %_ %_ ⟨Hs, Hsp, HO⟩
  ihave Hs := (src2_intro X Wt c 2 (by decide)) $$ Hs
  -- the copies of hop 2
  iapply (hop_send X Wt K I hI c 2 (by decide) rfl (dev_nxt c (k0_dev7_eq c)) rfl rfl rfl rfl (dev_prv c (k0_dev8_eq c)) rfl rfl rfl) $$ [Hr Hs HO]
  · isplitr; · iexact HI
    isplitl [Hr]; · iexact Hr
    isplitl [Hs]; · iexact Hs
    iexact HO
  iintro ⟨Hf, Hr, HO⟩
  -- the products of chunk 3
  iapply (step_prod X Wt c (ck 0 c 3) 4 2 (off1_ck c 3) rfl rfl) $$ [HX Ha4 Hb2]
  · isplitl [HX]; · iexact HX
    isplitl [Ha4]; · iexact Ha4
    iexact Hb2
  iintro %_ %_ %_ %_ ⟨HX, Ha4, Hb2⟩
  ihave Hb2 := (Entails.of_eq (flip_eq X Wt c 3 5 (ck_flip c 3 (by decide)) _)) $$ Hb2
  -- the products of chunk 5
  iapply (step_prod X Wt c (ck 0 c 5) 2 4 (off1_ck c 5) rfl rfl) $$ [HX Ha2 Hb4]
  · isplitl [HX]; · iexact HX
    isplitl [Ha2]; · iexact Ha2
    iexact Hb4
  iintro %_ %_ %_ %_ ⟨HX, Ha2, Hb4⟩
  ihave Hb4 := (Entails.of_eq (flip_eq X Wt c 5 3 (ck_flip c 5 (by decide)) _)) $$ Hb4
  iapply (hop_reduce X Wt K I hI c 2 (by decide) rfl rfl rfl rfl rfl) $$ [Hf Hsp HO Ha4 Hb4]
  · isplitr; · iexact HI
    isplitr; · iexact Hlev
    isplitl [Hf]; · iexact Hf
    isplitl [Hsp]; · iexact Hsp
    isplitl [HO]; · iexact HO
    isplitl [Ha4]; · iexact Ha4
    iexact Hb4
  iintro %_ %_ %_ %_ %_ %_ ⟨Hs, Hsp, HO⟩
  ihave Hs := (src2_intro X Wt c 3 (by decide)) $$ Hs
  -- the copies of hop 3
  iapply (hop_send X Wt K I hI c 3 (by decide) rfl (dev_nxt c (k0_dev9_eq c)) rfl rfl rfl rfl (dev_prv c (k0_dev10_eq c)) rfl rfl rfl) $$ [Hr Hs HO]
  · isplitr; · iexact HI
    isplitl [Hr]; · iexact Hr
    isplitl [Hs]; · iexact Hs
    iexact HO
  iintro ⟨Hf, Hr, HO⟩
  -- the products of chunk 4
  iapply (step_prod X Wt c (ck 0 c 4) 3 3 (off1_ck c 4) rfl rfl) $$ [HX Ha3 Hb3]
  · isplitl [HX]; · iexact HX
    isplitl [Ha3]; · iexact Ha3
    iexact Hb3
  iintro %_ %_ %_ %_ ⟨HX, Ha3, Hb3⟩
  ihave Hb3 := (Entails.of_eq (flip_eq X Wt c 4 4 (ck_flip c 4 (by decide)) _)) $$ Hb3
  iapply (hop_reduce X Wt K I hI c 3 (by decide) rfl rfl rfl rfl rfl) $$ [Hf Hsp HO Ha3 Hb3]
  · isplitr; · iexact HI
    isplitr; · iexact Hlev
    isplitl [Hf]; · iexact Hf
    isplitl [Hsp]; · iexact Hsp
    isplitl [HO]; · iexact HO
    isplitl [Ha3]; · iexact Ha3
    iexact Hb3
  iintro %_ %_ %_ %_ %_ %_ ⟨Hs, Hsp, HO⟩
  ihave Hs := (src2_intro X Wt c 4 (by decide)) $$ Hs
  -- the copies of hop 4
  iapply (hop_send X Wt K I hI c 4 (by decide) rfl (dev_nxt c (k0_dev11_eq c)) rfl rfl rfl rfl (dev_prv c (k0_dev12_eq c)) rfl rfl rfl) $$ [Hr Hs HO]
  · isplitr; · iexact HI
    isplitl [Hr]; · iexact Hr
    isplitl [Hs]; · iexact Hs
    iexact HO
  iintro ⟨Hf, Hr, HO⟩
  iapply (hop_reduce X Wt K I hI c 4 (by decide) rfl rfl rfl rfl rfl) $$ [Hf Hsp HO Ha2 Hb2]
  · isplitr; · iexact HI
    isplitr; · iexact Hlev
    isplitl [Hf]; · iexact Hf
    isplitl [Hsp]; · iexact Hsp
    isplitl [HO]; · iexact HO
    isplitl [Ha2]; · iexact Ha2
    iexact Hb2
  iintro %_ %_ %_ %_ %_ %_ ⟨Hs, Hsp, HO⟩
  ihave Hs := (src2_intro X Wt c 5 (by decide)) $$ Hs
  -- the copies of hop 5
  iapply (hop_send X Wt K I hI c 5 (by decide) rfl (dev_nxt c (k0_dev13_eq c)) rfl rfl rfl rfl (dev_prv c (k0_dev14_eq c)) rfl rfl rfl) $$ [Hr Hs HO]
  · isplitr; · iexact HI
    isplitl [Hr]; · iexact Hr
    isplitl [Hs]; · iexact Hs
    iexact HO
  iintro ⟨Hf, Hr, HO⟩
  iapply (hop_reduce X Wt K I hI c 5 (by decide) rfl rfl rfl rfl rfl) $$ [Hf Hsp HO Ha1 Hb1]
  · isplitr; · iexact HI
    isplitr; · iexact Hlev
    isplitl [Hf]; · iexact Hf
    isplitl [Hsp]; · iexact Hsp
    isplitl [HO]; · iexact HO
    isplitl [Ha1]; · iexact Ha1
    iexact Hb1
  iintro %_ %_ %_ %_ %_ %_ ⟨Hs, Hsp, HO⟩
  ihave Hs := (src2_intro X Wt c 6 (by decide)) $$ Hs
  -- the copies of hop 6
  iapply (hop_send X Wt K I hI c 6 (by decide) rfl (dev_nxt c (k0_dev15_eq c)) rfl rfl rfl rfl (dev_prv c (k0_dev16_eq c)) rfl rfl rfl) $$ [Hr Hs HO]
  · isplitr; · iexact HI
    isplitl [Hr]; · iexact Hr
    isplitl [Hs]; · iexact Hs
    iexact HO
  iintro ⟨Hf, Hr, HO⟩
  iapply (hop_reduce X Wt K I hI c 6 (by decide) rfl rfl rfl rfl rfl) $$ [Hf Hsp HO Ha0 Hb0]
  · isplitr; · iexact HI
    isplitr; · iexact Hlev
    isplitl [Hf]; · iexact Hf
    isplitl [Hsp]; · iexact Hsp
    isplitl [HO]; · iexact HO
    isplitl [Ha0]; · iexact Ha0
    iexact Hb0
  iintro %_ %_ %_ %_ %_ %_ ⟨Hs, Hsp, HO⟩
  ihave Hs := (src2_seven X Wt c) $$ Hs
  icases Hs with ⟨Hs, Hq0, Hq1⟩
  -- the copies of hop 7
  iapply (hop_send X Wt K I hI c 7 (by decide) rfl (dev_nxt c (k0_dev17_eq c)) (out_slice (ck 0 c 7) 0 (off2_ck c 0)) rfl rfl rfl (dev_prv c (k0_dev18_eq c)) (out_slice (ck 1 c 7) 1 (off3_ck c 0)) rfl rfl) $$ [Hr Hs HO]
  · isplitr; · iexact HI
    isplitl [Hr]; · iexact Hr
    isplitl [Hs]; · iexact Hs
    iexact HO
  iintro ⟨Hf, Hr, HO⟩
  iapply (step_copy c (Memref.whole cc0_scratch0) 0 fullShare.right (sentV X Wt 0 c 7) (ck 0 c 7) 0 rfl (off4_ck c)) $$ [Hq0 Ho0]
  · isplitl [Hq0]; · iexact Hq0
    iexact Ho0
  iintro %_ %_ ⟨Hq0, Ho0⟩
  iapply (step_copy c (Memref.whole cc0_scratch1) 0 fullShare.right (sentV X Wt 1 c 7) (ck 1 c 7) 1 rfl (off5_ck c)) $$ [Hq1 Ho1]
  · isplitl [Hq1]; · iexact Hq1
    iexact Ho1
  iintro %_ %_ ⟨Hq1, Ho1⟩
  iapply (hop_first X Wt K I hI c rfl rfl rfl rfl) $$ [Hf Hsp HO Hq0 Hq1]
  · isplitr; · iexact HI
    isplitr; · iexact Hlev
    isplitl [Hf]; · iexact Hf
    isplitl [Hsp]; · iexact Hsp
    isplitl [HO]; · iexact HO
    isplitl [Hq0]; · iexact Hq0
    iexact Hq1
  iintro ⟨Hs, Hsp, HO⟩
  ihave Hp := (piece2_seven X Wt c) $$ [Ho0 Ho1]
  · isplitl [Ho0]; · iexact Ho0
    iexact Ho1
  -- the copies of hop 8
  iapply (hop_send X Wt K I hI c 8 (by decide) (out_slice (ck 0 c 8) 0 (off2_ck c 1)) (dev_nxt c (k0_dev19_eq c)) (out_slice (ck 0 c 8) 0 (off2_ck c 1)) rfl rfl (out_slice (ck 1 c 8) 1 (off3_ck c 1)) (dev_prv c (k0_dev20_eq c)) (out_slice (ck 1 c 8) 1 (off3_ck c 1)) rfl rfl) $$ [Hr Hs HO]
  · isplitr; · iexact HI
    isplitl [Hr]; · iexact Hr
    isplitl [Hs]; · iexact Hs
    iexact HO
  iintro ⟨Hf, Hr, HO⟩
  iapply (hop_gather X Wt K I hI c 8 (by decide) (by decide) rfl rfl rfl rfl) $$ [Hf Hsp HO Hp]
  · isplitr; · iexact HI
    isplitr; · iexact Hlev
    isplitl [Hf]; · iexact Hf
    isplitl [Hsp]; · iexact Hsp
    isplitl [HO]; · iexact HO
    iexact Hp
  iintro ⟨Hs, Hsp, HO, Hp⟩
  -- the copies of hop 9
  iapply (hop_send X Wt K I hI c 9 (by decide) (out_slice (ck 0 c 9) 0 (off2_ck c 2)) (dev_nxt c (k0_dev21_eq c)) (out_slice (ck 0 c 9) 0 (off2_ck c 2)) rfl rfl (out_slice (ck 1 c 9) 1 (off3_ck c 2)) (dev_prv c (k0_dev22_eq c)) (out_slice (ck 1 c 9) 1 (off3_ck c 2)) rfl rfl) $$ [Hr Hs HO]
  · isplitr; · iexact HI
    isplitl [Hr]; · iexact Hr
    isplitl [Hs]; · iexact Hs
    iexact HO
  iintro ⟨Hf, Hr, HO⟩
  iapply (hop_gather X Wt K I hI c 9 (by decide) (by decide) rfl rfl rfl rfl) $$ [Hf Hsp HO Hp]
  · isplitr; · iexact HI
    isplitr; · iexact Hlev
    isplitl [Hf]; · iexact Hf
    isplitl [Hsp]; · iexact Hsp
    isplitl [HO]; · iexact HO
    iexact Hp
  iintro ⟨Hs, Hsp, HO, Hp⟩
  -- the copies of hop 10
  iapply (hop_send X Wt K I hI c 10 (by decide) (out_slice (ck 0 c 10) 0 (off2_ck c 3)) (dev_nxt c (k0_dev23_eq c)) (out_slice (ck 0 c 10) 0 (off2_ck c 3)) rfl rfl (out_slice (ck 1 c 10) 1 (off3_ck c 3)) (dev_prv c (k0_dev24_eq c)) (out_slice (ck 1 c 10) 1 (off3_ck c 3)) rfl rfl) $$ [Hr Hs HO]
  · isplitr; · iexact HI
    isplitl [Hr]; · iexact Hr
    isplitl [Hs]; · iexact Hs
    iexact HO
  iintro ⟨Hf, Hr, HO⟩
  iapply (hop_gather X Wt K I hI c 10 (by decide) (by decide) rfl rfl rfl rfl) $$ [Hf Hsp HO Hp]
  · isplitr; · iexact HI
    isplitr; · iexact Hlev
    isplitl [Hf]; · iexact Hf
    isplitl [Hsp]; · iexact Hsp
    isplitl [HO]; · iexact HO
    iexact Hp
  iintro ⟨Hs, Hsp, HO, Hp⟩
  -- the copies of hop 11
  iapply (hop_send X Wt K I hI c 11 (by decide) (out_slice (ck 0 c 11) 0 (off2_ck c 4)) (dev_nxt c (k0_dev25_eq c)) (out_slice (ck 0 c 11) 0 (off2_ck c 4)) rfl rfl (out_slice (ck 1 c 11) 1 (off3_ck c 4)) (dev_prv c (k0_dev26_eq c)) (out_slice (ck 1 c 11) 1 (off3_ck c 4)) rfl rfl) $$ [Hr Hs HO]
  · isplitr; · iexact HI
    isplitl [Hr]; · iexact Hr
    isplitl [Hs]; · iexact Hs
    iexact HO
  iintro ⟨Hf, Hr, HO⟩
  iapply (hop_gather X Wt K I hI c 11 (by decide) (by decide) rfl rfl rfl rfl) $$ [Hf Hsp HO Hp]
  · isplitr; · iexact HI
    isplitr; · iexact Hlev
    isplitl [Hf]; · iexact Hf
    isplitl [Hsp]; · iexact Hsp
    isplitl [HO]; · iexact HO
    iexact Hp
  iintro ⟨Hs, Hsp, HO, Hp⟩
  -- the copies of hop 12
  iapply (hop_send X Wt K I hI c 12 (by decide) (out_slice (ck 0 c 12) 0 (off2_ck c 5)) (dev_nxt c (k0_dev27_eq c)) (out_slice (ck 0 c 12) 0 (off2_ck c 5)) rfl rfl (out_slice (ck 1 c 12) 1 (off3_ck c 5)) (dev_prv c (k0_dev28_eq c)) (out_slice (ck 1 c 12) 1 (off3_ck c 5)) rfl rfl) $$ [Hr Hs HO]
  · isplitr; · iexact HI
    isplitl [Hr]; · iexact Hr
    isplitl [Hs]; · iexact Hs
    iexact HO
  iintro ⟨Hf, Hr, HO⟩
  iapply (hop_gather X Wt K I hI c 12 (by decide) (by decide) rfl rfl rfl rfl) $$ [Hf Hsp HO Hp]
  · isplitr; · iexact HI
    isplitr; · iexact Hlev
    isplitl [Hf]; · iexact Hf
    isplitl [Hsp]; · iexact Hsp
    isplitl [HO]; · iexact HO
    iexact Hp
  iintro ⟨Hs, Hsp, HO, Hp⟩
  -- the copies of hop 13
  iapply (hop_send X Wt K I hI c 13 (by decide) (out_slice (ck 0 c 13) 0 (off2_ck c 6)) (dev_nxt c (k0_dev29_eq c)) (out_slice (ck 0 c 13) 0 (off2_ck c 6)) rfl rfl (out_slice (ck 1 c 13) 1 (off3_ck c 6)) (dev_prv c (k0_dev30_eq c)) (out_slice (ck 1 c 13) 1 (off3_ck c 6)) rfl rfl) $$ [Hr Hs HO]
  · isplitr; · iexact HI
    isplitl [Hr]; · iexact Hr
    isplitl [Hs]; · iexact Hs
    iexact HO
  iintro ⟨Hf, Hr, HO⟩
  iapply (hop_gather X Wt K I hI c 13 (by decide) (by decide) rfl rfl rfl rfl) $$ [Hf Hsp HO Hp]
  · isplitr; · iexact HI
    isplitr; · iexact Hlev
    isplitl [Hf]; · iexact Hf
    isplitl [Hsp]; · iexact Hsp
    isplitl [HO]; · iexact HO
    iexact Hp
  iintro ⟨Hs, Hsp, HO, Hp⟩
  ihave Hp := (piece2_last X Wt c) $$ [Hp Hs]
  · isplitl [Hp]; · iexact Hp
    iexact Hs
  rw [wp_ret]; imodintro
  iapply Hk
  isplitl [HX]; · iexact HX
  isplitl [Hsp]; · iexact Hsp
  isplitl [Hp]; · iexact Hp
  isplitl [Hbar]; · iexact Hbar
  iexact HO

end Cert.KernelIdeal.Talk
-- ==== Proof.Split.lean ====
/-
# Buffers held whole, and held piece by piece

The buffers of eight slots are held slot by slot, the result in sixteen half chunks; what the body is given of them is
cut from whole buffers here, and what it leaves is put together again.
-/
module

public import proofs.«01_k».proof.Proof.Body
public import Idealize.ShloMosaic.Lib.Ring
public import Idealize.SL.BI.BigOpNat

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Eight slots -/

theorem mem_slot (k : Fin 8) (i : S8x256x512.Idx) : i ∈ (slotR k.val).set ↔ (i 0).val = k.val := by
  have h0 : (i 0).val < 8 := (i 0).isLt
  have h1 : (i 1).val < 256 := (i 1).isLt
  have h2 : (i 2).val < 512 := (i 2).isLt
  have hk := k.isLt
  unfold slotR
  rw [Rect.mem_set_unit]
  constructor
  · intro h
    have := h 0
    simp only [Matrix.cons_val_zero, S1x256x512] at this
    omega
  · intro h a
    fin_cases a
    · simp only [Fin.zero_eta, Matrix.cons_val_zero, S1x256x512]; omega
    · simp only [Fin.mk_one, Matrix.cons_val_one, Matrix.cons_val_zero, S1x256x512]; omega
    · simp only [Fin.reduceFinMk, Matrix.cons_val, S1x256x512]; omega

theorem slot_set' (B : Memref sig .tc .vmem S8x256x512 .f32) (k : ℕ) : (slotM B k).view.set = (slotR k).set.map B.view.emb :=
  (slot_set B k).trans (View.set_slice B.view (slotR k))

/-- The elements of slot `k` among the buffer's. -/
def slotI (B : Memref sig .tc .vmem S8x256x512 .f32) (c : Dev nD) (k : Fin 8) : Finset (Idx (B.view.loc (c : Thread nD τ))) :=
  (slotR k.val).set.map B.view.emb

theorem slot_disj (B : Memref sig .tc .vmem S8x256x512 .f32) (c : Dev nD) (k k' : Fin 8) (h : k ≠ k') :
    Disjoint (slotI B c k) (slotI B c k') := by
  unfold slotI
  refine (Finset.disjoint_map _).mpr ?_
  rw [Finset.disjoint_left]
  intro i hi hi'
  rw [mem_slot] at hi hi'
  exact h (Fin.ext (hi.symm.trans hi'))

theorem slot_cover (B : Memref sig .tc .vmem S8x256x512 .f32) (hB : ∀ x, x ∈ B.view.set) (c : Dev nD) :
    Finset.univ.biUnion (slotI B c) = Finset.univ := by
  refine Finset.eq_univ_of_forall fun x => ?_
  obtain ⟨i, -, rfl⟩ := Finset.mem_map.mp (hB x)
  have h0 : (i 0).val < 8 := (i 0).isLt
  refine Finset.mem_biUnion.mpr ⟨⟨(i 0).val, h0⟩, Finset.mem_univ _, ?_⟩
  unfold slotI
  exact Finset.mem_map_of_mem _ ((mem_slot _ _).mpr rfl)

/-- Slot `k` held, at contents not named. -/
def slotH (B : Memref sig .tc .vmem S8x256x512 .f32) (c : Dev nD) (k : Fin 8) : sProp 𝕄 :=
  iprop(∃ f : Buf (Elt F) (B.view.loc (c : Thread nD τ)), (B.view.loc (c : Thread nD τ) ↦[slotI B c k]{fullShare} f))

theorem slotH_intro (B : Memref sig .tc .vmem S8x256x512 .f32) (c : Dev nD) (k : Fin 8) (f : Buf (Elt F) (B.view.loc (c : Thread nD τ))) :
    (B.view.loc (c : Thread nD τ) ↦[slotI B c k]{fullShare} f : sProp 𝕄) ⊢ slotH B c k := by
  unfold slotH; iintro H; iexists f; iexact H

theorem slotH_eq (B : Memref sig .tc .vmem S8x256x512 .f32) (c : Dev nD) (k : Fin 8) : (held (slotM B k.val) c : sProp 𝕄) = slotH B c k := by
  unfold held slotH slotI; rw [slot_set']; rfl

theorem slots_range (B : Memref sig .tc .vmem S8x256x512 .f32) (c : Dev nD) :
    bigSep (Finset.univ : Finset (Fin 8)) (slotH B c) = (bigSep (Finset.range 8) fun k => held (slotM B k) c : sProp 𝕄) :=
  Ring.bigSep_fin_eq_range 8 _ _ fun t h => slotH_eq B c ⟨t, h⟩

theorem slots_cut (B : Memref sig .tc .vmem S8x256x512 .f32) (hB : ∀ x, x ∈ B.view.set) (c : Dev nD) (f : Buf (Elt F) (B.view.loc (c : Thread nD τ))) :
    (B.view.loc (c : Thread nD τ) ↦{fullShare} f : sProp 𝕄) ⊢ bigSep (Finset.univ : Finset (Fin 8)) (slotH B c) :=
  (Entails.of_eq (Ring.pointsTo_blocks (slotI B c) (slot_disj B c) (slot_cover B hB c) f)).trans
    (bigSep_mono fun k _ => slotH_intro B c k f)

/-- A buffer of eight slots held whole is held slot by slot; -/
theorem slots_split (B : Memref sig .tc .vmem S8x256x512 .f32) (hB : ∀ x, x ∈ B.view.set) (c : Dev nD) :
    iprop(∃ f : Buf (Elt F) (B.view.loc (c : Thread nD τ)), (B.view.loc (c : Thread nD τ) ↦{fullShare} f))
      ⊢ (bigSep (Finset.range 8) fun k => held (slotM B k) c : sProp 𝕄) := by
  rw [← slots_range]
  iintro ⟨%f, H⟩
  iapply (slots_cut B hB c f); iexact H
/-- and slot by slot, whole. -/
theorem slots_join (B : Memref sig .tc .vmem S8x256x512 .f32) (hB : ∀ x, x ∈ B.view.set) (c : Dev nD)
    (f₀ : Buf (Elt F) (B.view.loc (c : Thread nD τ))) :
    (bigSep (Finset.range 8) fun k => held (slotM B k) c : sProp 𝕄)
      ⊢ iprop(∃ f : Buf (Elt F) (B.view.loc (c : Thread nD τ)), (B.view.loc (c : Thread nD τ) ↦{fullShare} f)) := by
  rw [← slots_range]
  unfold slotH
  exact Ring.pointsTo_blocks_join_exists (slotI B c) (slot_disj B c) (slot_cover B hB c) f₀

/-! ## Sixteen half chunks of the result -/

abbrev outR (p : Fin 2 × Fin 8) : Rect S2048x1024 := Rect.unit (s := S2048x1024) ![256 * p.2.val, 512 * p.1.val] S256x512.size (inbO p.2 p.1)

theorem mem_out (p : Fin 2 × Fin 8) (i : S2048x1024.Idx) : i ∈ (outR p).set ↔ (i 0).val / 256 = p.2.val ∧ (i 1).val / 512 = p.1.val := by
  have h0 : (i 0).val < 2048 := (i 0).isLt
  have h1 : (i 1).val < 1024 := (i 1).isLt
  unfold outR
  rw [Rect.mem_set_unit]
  constructor
  · intro h
    have h2 := h 0
    have h3 := h 1
    simp only [Matrix.cons_val_zero, Matrix.cons_val_one, S256x512] at h2 h3
    omega
  · intro h a
    fin_cases a
    · simp only [Fin.zero_eta, Matrix.cons_val_zero, S256x512]; omega
    · simp only [Fin.mk_one, Matrix.cons_val_one, Matrix.cons_val_zero, S256x512]; omega

theorem out_set (p : Fin 2 × Fin 8) : (outM p.2 p.1).view.set = (outR p).set := View.set_slice_whole cc0_stg2_0 (outR p)

theorem out_disj (p p' : Fin 2 × Fin 8) (h : p ≠ p') : Disjoint (outR p).set (outR p').set := by
  rw [Finset.disjoint_left]
  intro i hi hi'
  rw [mem_out] at hi hi'
  exact h (Prod.ext (Fin.ext (hi.2.symm.trans hi'.2)) (Fin.ext (hi.1.symm.trans hi'.1)))

theorem out_cover : Finset.univ.biUnion (fun p : Fin 2 × Fin 8 => (outR p).set) = Finset.univ := by
  refine Finset.eq_univ_of_forall fun i => ?_
  have h0 : (i 0).val < 2048 := (i 0).isLt
  have h1 : (i 1).val < 1024 := (i 1).isLt
  exact Finset.mem_biUnion.mpr ⟨(⟨(i 1).val / 512, by omega⟩, ⟨(i 0).val / 256, by omega⟩), Finset.mem_univ _, (mem_out _ _).mpr ⟨rfl, rfl⟩⟩

abbrev oLoc (c : Dev nD) : Loc nD τ sig := oM.view.loc (c : Thread nD τ)

theorem held_outR (c : Dev nD) (p : Fin 2 × Fin 8) (f : Buf (Elt F) (oLoc c)) :
    (oLoc c ↦[(outR p).set]{fullShare} f : sProp 𝕄) ⊢ held (outM p.2 p.1) c := by
  unfold held
  rw [out_set p]
  iintro H; iexists f; iexact H

/-- The result's buffer held whole is held in half chunks. -/
theorem outs_split (c : Dev nD) (f : Buf (Elt F) (oLoc c)) :
    (oLoc c ↦{fullShare} f : sProp 𝕄)
      ⊢ iprop((bigSep (Finset.univ : Finset (Fin 8)) fun k => held (outM k 0) c) ∗ (bigSep (Finset.univ : Finset (Fin 8)) fun k => held (outM k 1) c)) := by
  have e := BI.bigSep_fin_two (fun h : Fin 2 => (bigSep (Finset.univ : Finset (Fin 8)) fun k => held (F := F) (outM k h) c : sProp 𝕄))
  refine BIBase.Entails.trans ?_ (Entails.of_eq e)
  rw [Ring.pointsTo_blocks (fun p : Fin 2 × Fin 8 => (outR p).set) out_disj out_cover f, bigSep_univ_prod]
  exact bigSep_mono fun h _ => bigSep_mono fun k _ => held_outR c (h, k) f

section Whole

variable (X : Dev nD → (cc0_stg0_0 : Ref sig .tc).ty.Contents (Elt F)) (Wt : Dev nD → (cc0_stg1_0 : Ref sig .tc).ty.Contents (Elt F))

/-- The element of a half chunk that an element of the result is. -/
def inHalf (i : S2048x1024.Idx) : S256x512.Idx := fun a => match a with
  | ⟨0, _⟩ => ⟨(i 0).val % 256, Nat.mod_lt _ (by decide)⟩
  | ⟨1, _⟩ => ⟨(i 1).val % 512, Nat.mod_lt _ (by decide)⟩
def halfOf (i : S2048x1024.Idx) : Fin 2 := ⟨(i 1).val / 512, by have h1 : (i 1).val < 1024 := (i 1).isLt; omega⟩
def chunkOf (i : S2048x1024.Idx) : Fin 8 := ⟨(i 0).val / 256, by have h0 : (i 0).val < 2048 := (i 0).isLt; omega⟩
/-- The whole result: its half chunks side by side. -/
def outW : (cc0_stg2_0 : Ref sig .tc).ty.Contents (Elt F) := fun i => outV X Wt (halfOf i) (chunkOf i) (inHalf i)

theorem out_emb (p : Fin 2 × Fin 8) (j : S256x512.Idx) :
    halfOf ((outR p).emb j) = p.1 ∧ chunkOf ((outR p).emb j) = p.2 ∧ inHalf ((outR p).emb j) = j := by
  have h0 : (j 0).val < 256 := (j 0).isLt
  have h1 : (j 1).val < 512 := (j 1).isLt
  have e0 : ((outR p).emb j 0).val = 256 * p.2.val + (j 0).val := by
    show 256 * p.2.val + 1 * (j 0).val = _; omega
  have e1 : ((outR p).emb j 1).val = 512 * p.1.val + (j 1).val := by
    show 512 * p.1.val + 1 * (j 1).val = _; omega
  refine ⟨Fin.ext ?_, Fin.ext ?_, ?_⟩
  · show ((outR p).emb j 1).val / 512 = _; omega
  · show ((outR p).emb j 0).val / 256 = _; omega
  · funext a
    refine Fin.ext ?_
    match a with
    | ⟨0, _⟩ => show ((outR p).emb j 0).val % 256 = (j 0).val; omega
    | ⟨1, _⟩ => show ((outR p).emb j 1).val % 512 = (j 1).val; omega

theorem half_outW (c : Dev nD) (p : Fin 2 × Fin 8) (f : Buf (Elt F) (oLoc c)) (hf : (outM p.2 p.1).view.read (Elt F) f = outV X Wt p.1 p.2) :
    (oLoc c ↦[(outR p).set]{fullShare} f : sProp 𝕄) ⊢ (oLoc c ↦[(outR p).set]{fullShare} outW X Wt) :=
  Entails.of_eq (pointsTo_congr fun i hi => by
    rw [← Rect.map_emb_univ] at hi
    obtain ⟨j, -, rfl⟩ := Finset.mem_map.mp hi
    obtain ⟨h1, h2, h3⟩ := out_emb p j
    show f ((outR p).emb j) = outV X Wt (halfOf ((outR p).emb j)) (chunkOf ((outR p).emb j)) (inHalf ((outR p).emb j))
    rw [h1, h2, h3, ← hf]; rfl)

theorem hold_outW (c : Dev nD) (p : Fin 2 × Fin 8) :
    (hold (outM p.2 p.1) fullShare (outV X Wt p.1 p.2) c : sProp 𝕄) ⊢ (oLoc c ↦[(outR p).set]{fullShare} outW X Wt) := by
  unfold hold
  rw [out_set p]
  iintro ⟨%f, %hf, H⟩
  iapply (half_outW X Wt c p f hf); iexact H

/-- The half chunks of the result, at their values, are the result held whole at its value. -/
theorem outs_join (c : Dev nD) :
    iprop((bigSep (Finset.univ : Finset (Fin 8)) fun k => hold (outM k 0) fullShare (outV X Wt 0 k) c)
        ∗ (bigSep (Finset.univ : Finset (Fin 8)) fun k => hold (outM k 1) fullShare (outV X Wt 1 k) c))
      ⊢ (oLoc c ↦{fullShare} outW X Wt : sProp 𝕄) := by
  have e := BI.bigSep_fin_two (fun h : Fin 2 => (bigSep (Finset.univ : Finset (Fin 8)) fun k => hold (F := F) (outM k h) fullShare (outV X Wt h k) c : sProp 𝕄))
  have e' := Ring.pointsTo_blocks (ℓ := oLoc c) (Ix := Unit) (Name := ℕ) (U := UU) (Lvl := ℕ) (q := fullShare) (fun p : Fin 2 × Fin 8 => (outR p).set) out_disj out_cover (outW X Wt)
  refine (Entails.of_eq e.symm).trans ?_
  refine BIBase.Entails.trans ?_ (Entails.of_eq e'.symm)
  rw [bigSep_univ_prod]
  exact bigSep_mono fun h _ => bigSep_mono fun k _ => hold_outW X Wt c (h, k)

end Whole

/-! ## Which hop has which piece -/

theorem ck_image : ∀ (h : Fin 2) (c : Dev nD), (Finset.Ico 7 15).image (ck h c) = Finset.univ := by decide
theorem ck_inj : ∀ (h : Fin 2) (c : Dev nD), ∀ i ∈ Finset.Ico 7 15, ∀ j ∈ Finset.Ico 7 15, ck h c i = ck h c j → i = j := by decide
theorem ck_fb2 : ∀ (h : Fin 2) (c : Dev nD), ∀ j < 14, ck h (fb h c) j = ck h c (j + 1) := by decide

theorem chunks_hops (h : Fin 2) (c : Dev nD) (Φ : Fin 8 → sProp 𝕄) :
    bigSep (Finset.univ : Finset (Fin 8)) Φ = bigSep (Finset.Ico 7 15) fun j => Φ (ck h c j) := by
  rw [← ck_image h c, BI.bigSep_image_of_injOn (fun i hi j hj => ck_inj h c i (Finset.mem_coe.mp hi) j (Finset.mem_coe.mp hj))]

theorem refl_range (n : ℕ) (Φ : ℕ → sProp 𝕄) : bigSep (Finset.range n) (fun j => Φ (n - 1 - j)) = bigSep (Finset.range n) Φ := by
  have e : (Finset.range n).image (fun j => n - 1 - j) = Finset.range n := by
    ext k
    simp only [Finset.mem_image, Finset.mem_range]
    exact ⟨fun ⟨j, hj, e⟩ => by omega, fun hk => ⟨n - 1 - k, by omega, by omega⟩⟩
  conv_rhs => rw [← e]
  rw [BI.bigSep_image_of_injOn (fun i hi j hj h => by
    have := Finset.mem_range.mp (Finset.mem_coe.mp hi); have := Finset.mem_range.mp (Finset.mem_coe.mp hj); omega)]

theorem shift_Ico (a b : ℕ) (Φ : ℕ → sProp 𝕄) : bigSep (Finset.Ico (a + 1) (b + 1)) Φ = bigSep (Finset.Ico a b) fun j => Φ (j + 1) := by
  have e : (Finset.Ico a b).image (fun j => j + 1) = Finset.Ico (a + 1) (b + 1) := by
    ext k
    simp only [Finset.mem_image, Finset.mem_Ico]
    exact ⟨fun ⟨j, hj, e⟩ => by omega, fun hk => ⟨k - 1, by omega, by omega⟩⟩
  rw [← e, BI.bigSep_image_of_injOn (fun i _ j _ h => by omega)]

theorem split_range {a b : ℕ} (h : a ≤ b) (Φ : ℕ → sProp 𝕄) :
    bigSep (Finset.range b) Φ = iprop(bigSep (Finset.range a) Φ ∗ bigSep (Finset.Ico a b) Φ) := by
  have e : Finset.range b = Finset.range a ∪ Finset.Ico a b := by
    ext k; simp only [Finset.mem_union, Finset.mem_range, Finset.mem_Ico]; omega
  have hd : Disjoint (Finset.range a) (Finset.Ico a b) := by
    rw [Finset.disjoint_left]; intro k h1 h2; rw [Finset.mem_range] at h1; rw [Finset.mem_Ico] at h2; omega
  rw [e, BI.bigSep_union hd]; rfl

/-- What the hops of direction `h` land in at device `c`. -/
def lands (h : Fin 2) (c : Dev nD) : sProp 𝕄 := bigSep (Finset.range 14) fun j => held (dstM h (fb h c) j) c

theorem lands_intro (h : Fin 2) (c : Dev nD) :
    iprop((bigSep (Finset.range 8) fun k => held (slotM (comM h) k) c) ∗ (bigSep (Finset.univ : Finset (Fin 8)) fun k => held (outM k h) c))
      ⊢ (iprop(lands h c ∗ held (slotM (comM h) 7) c ∗ held (outM (ck h c 7) h) c) : sProp 𝕄) := by
  have e1 : bigSep (Finset.range 7) (fun j => (held (dstM h (fb h c) j) c : sProp 𝕄)) = bigSep (Finset.range 7) fun k => held (slotM (comM h) k) c := by
    rw [← refl_range 7 fun k => (held (slotM (comM h) k) c : sProp 𝕄)]
    exact bigSep_congr fun j hj => by rw [dstM_low h (fb h c) (Finset.mem_range.mp hj)]
  have e2 : bigSep (Finset.Ico 7 14) (fun j => (held (dstM h (fb h c) j) c : sProp 𝕄)) = bigSep (Finset.Ico 8 15) fun j => held (outM (ck h c j) h) c := by
    rw [shift_Ico 7 14]
    exact bigSep_congr fun j hj => by
      have := Finset.mem_Ico.mp hj
      rw [dstM_high h (fb h c) (by omega), ck_fb2 h c j (by omega)]
  unfold lands
  rw [split_range (show 7 ≤ 14 by decide), e1, e2, chunks_hops h c, BI.bigSep_Ico_succ_bot (show 7 < 15 by decide), BI.bigSep_range_succ 7]
  iintro ⟨⟨Hb, Ha⟩, Hc, Hd⟩
  isplitl [Ha Hd]
  · isplitl [Ha]; · iexact Ha
    iexact Hd
  isplitl [Hb]; · iexact Hb
  iexact Hc

end Cert.KernelIdeal.Talk

end
-- ==== Proof.Enter.lean ====
/-
# What the body is entered with, and what it leaves

The protocol's part of a device's holdings before and after its cells are opened, the buffers it blanks at entry, and the
buffers and counters put together again at exit.
-/
module

public import proofs.«01_k».proof.Proof.Split
public import Idealize.SL.ProofMode.BigOp

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Exit: the buffers and the counters -/

/-- A family that is empty from `n` on is its first `n` members. -/
theorem ite_range {n : ℕ} (hn : n ≤ 14) (Φ : ℕ → sProp (MT nD τ sig Unit (Elt F) ℕ UU ℕ)) :
    bigSep (Finset.range 14) (fun j => if j < n then Φ j else iprop(emp)) = bigSep (Finset.range n) Φ := by
  have h1 : bigSep (Finset.range n) (fun j => if j < n then Φ j else iprop(emp)) = bigSep (Finset.range n) Φ :=
    bigSep_congr fun j hj => if_pos (Finset.mem_range.mp hj)
  have h2 : bigSep (Finset.Ico n 14) (fun j => if j < n then Φ j else iprop(emp)) = bigSep (Finset.Ico n 14) (fun _ => (BI.emp : sProp 𝕄)) :=
    bigSep_congr fun j hj => if_neg (by have := (Finset.mem_Ico.mp hj).1; omega)
  rw [split_range hn, h1, h2, BI.bigSep_emp_const]
  exact BI.equiv_iff.mp sep_emp

theorem slots_back8 (h : Fin 2) (c : Dev nD) :
    (bigSep (Finset.range 8) fun j => held (slotM (bufM h) (7 - j)) c) = (bigSep (Finset.range 8) fun k => held (slotM (bufM h) k) c : sProp 𝕄) :=
  refl_range 8 fun k => held (slotM (bufM h) k) c
theorem slots_back7 (h : Fin 2) (c : Dev nD) :
    (bigSep (Finset.range 7) fun j => held (slotM (comM h) (6 - j)) c) = (bigSep (Finset.range 7) fun k => held (slotM (comM h) k) c : sProp 𝕄) :=
  refl_range 7 fun k => held (slotM (comM h) k) c

/-- All the hops done: every counter of theirs at zero, every slot they used held. -/
theorem leave_spent (c : Dev nD) : bigSep (Finset.range 14) (spent c)
    ⊢ (iprop((bigSep (Finset.range 14) fun j => iprop(idle 0 c j ∗ idle 1 c j))
      ∗ ((bigSep (Finset.range 8) fun k => held (slotM (bufM 0) k) c) ∗ (bigSep (Finset.range 8) fun k => held (slotM (bufM 1) k) c))
      ∗ ((bigSep (Finset.range 7) fun k => held (slotM (comM 0) k) c) ∗ (bigSep (Finset.range 7) fun k => held (slotM (comM 1) k) c))) : sProp 𝕄) :=
  Entails.of_eq (by
    unfold spent
    rw [bigSep_sep', bigSep_sep', bigSep_sep', ite_range (by decide : 8 ≤ 14) (fun j => iprop(held (slotM (bufM 0) (7 - j)) c ∗ held (slotM (bufM 1) (7 - j)) c)),
      ite_range (by decide : 7 ≤ 14) (fun j => iprop(held (slotM (comM 0) (6 - j)) c ∗ held (slotM (comM 1) (6 - j)) c)), bigSep_sep', bigSep_sep',
      slots_back8, slots_back8, slots_back7, slots_back7])

theorem whole_all (b : Ref sig .tc) (x : b.ty.Idx) : x ∈ (View.whole b).set := by rw [View.set_whole]; exact Finset.mem_univ _
theorem buf_all : ∀ (h : Fin 2) (x : _), x ∈ (bufM h).view.set
  | ⟨0, _⟩ => whole_all cc0_scratch0
  | ⟨1, _⟩ => whole_all cc0_scratch1
theorem com_all : ∀ (h : Fin 2) (x : _), x ∈ (comM h).view.set
  | ⟨0, _⟩ => whole_all cc0_scratch2
  | ⟨1, _⟩ => whole_all cc0_scratch3

/-- The four buffers of slots, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

theorem split0 (c : Dev nD) : (iprop(∃ f : Buf (Elt F) ((c : Thread nD τ).loc cc0_scratch0), ((c : Thread nD τ).loc cc0_scratch0) ↦{fullShare} f) : sProp 𝕄)
    ⊢ bigSep (Finset.range 8) fun k => held (slotM (bufM 0) k) c := slots_split (bufM 0) (buf_all 0) c
theorem split1 (c : Dev nD) : (iprop(∃ f : Buf (Elt F) ((c : Thread nD τ).loc cc0_scratch1), ((c : Thread nD τ).loc cc0_scratch1) ↦{fullShare} f) : sProp 𝕄)
    ⊢ bigSep (Finset.range 8) fun k => held (slotM (bufM 1) k) c := slots_split (bufM 1) (buf_all 1) c
theorem split2 (c : Dev nD) : (iprop(∃ f : Buf (Elt F) ((c : Thread nD τ).loc cc0_scratch2), ((c : Thread nD τ).loc cc0_scratch2) ↦{fullShare} f) : sProp 𝕄)
    ⊢ bigSep (Finset.range 8) fun k => held (slotM (comM 0) k) c := slots_split (comM 0) (com_all 0) c
theorem split3 (c : Dev nD) : (iprop(∃ f : Buf (Elt F) ((c : Thread nD τ).loc cc0_scratch3), ((c : Thread nD τ).loc cc0_scratch3) ↦{fullShare} f) : sProp 𝕄)
    ⊢ bigSep (Finset.range 8) fun k => held (slotM (comM 1) k) c := slots_split (comM 1) (com_all 1) c

def any (c : Dev nD) (b : Ref sig .tc) : Buf (Elt F) ((c : Thread nD τ).loc b) := fun _ => Classical.choice inferInstance

theorem join0 (c : Dev nD) : (bigSep (Finset.range 8) fun k => held (slotM (bufM 0) k) c)
    ⊢ (iprop(∃ f : Buf (Elt F) ((c : Thread nD τ).loc cc0_scratch0), ((c : Thread nD τ).loc cc0_scratch0) ↦{fullShare} f) : sProp 𝕄) :=
  slots_join (bufM 0) (buf_all 0) c (any c cc0_scratch0)
theorem join1 (c : Dev nD) : (bigSep (Finset.range 8) fun k => held (slotM (bufM 1) k) c)
    ⊢ (iprop(∃ f : Buf (Elt F) ((c : Thread nD τ).loc cc0_scratch1), ((c : Thread nD τ).loc cc0_scratch1) ↦{fullShare} f) : sProp 𝕄) :=
  slots_join (bufM 1) (buf_all 1) c (any c cc0_scratch1)
theorem join2 (c : Dev nD) : (bigSep (Finset.range 8) fun k => held (slotM (comM 0) k) c)
    ⊢ (iprop(∃ f : Buf (Elt F) ((c : Thread nD τ).loc cc0_scratch2), ((c : Thread nD τ).loc cc0_scratch2) ↦{fullShare} f) : sProp 𝕄) :=
  slots_join (comM 0) (com_all 0) c (any c cc0_scratch2)
theorem join3 (c : Dev nD) : (bigSep (Finset.range 8) fun k => held (slotM (comM 1) k) c)
    ⊢ (iprop(∃ f : Buf (Elt F) ((c : Thread nD τ).loc cc0_scratch3), ((c : Thread nD τ).loc cc0_scratch3) ↦{fullShare} f) : sProp 𝕄) :=
  slots_join (comM 1) (com_all 1) c (any c cc0_scratch3)

/-- The two slots no hop uses. -/
def spare (c : Dev nD) : sProp 𝕄 := iprop(held (slotM (comM 0) 7) c ∗ held (slotM (comM 1) 7) c)

theorem com_whole (h : Fin 2) (c : Dev nD) : iprop(held (slotM (comM h) 7) c ∗ (bigSep (Finset.range 7) fun k => held (slotM (comM h) k) c))
    = (bigSep (Finset.range 8) fun k => held (slotM (comM h) k) c : sProp 𝕄) := by
  rw [BI.bigSep_range_succ 7]

theorem scratch_back (c : Dev nD) :
    iprop(spare c ∗ ((bigSep (Finset.range 8) fun k => held (slotM (bufM 0) k) c) ∗ (bigSep (Finset.range 8) fun k => held (slotM (bufM 1) k) c))
      ∗ ((bigSep (Finset.range 7) fun k => held (slotM (comM 0) k) c) ∗ (bigSep (Finset.range 7) fun k => held (slotM (comM 1) k) c))) ⊢ (scratch c : sProp 𝕄) := by
  unfold spare scratch
  iintro ⟨⟨Ha, Hb⟩, ⟨H0, H1⟩, H2, H3⟩
  isplitl [H0]; · iapply (join0 c); iexact H0
  isplitl [H1]; · iapply (join1 c); iexact H1
  isplitl [Ha H2]
  · iapply (join2 c); iapply (Entails.of_eq (com_whole 0 c)); isplitl [Ha]; · iexact Ha
    iexact H2
  · iapply (join3 c); iapply (Entails.of_eq (com_whole 1 c)); isplitl [Hb]; · iexact Hb
    iexact H3

variable (X : Dev nD → (cc0_stg0_0 : Ref sig .tc).ty.Contents (Elt F)) (Wt : Dev nD → (cc0_stg1_0 : Ref sig .tc).ty.Contents (Elt F))

/-- Every half chunk of the result in place: the result whole. -/
theorem result_back (c : Dev nD) : bigSep (Finset.Ico 7 15) (piece2 X Wt c) ⊢ (oLoc c ↦{fullShare} outW X Wt : sProp 𝕄) :=
  (Entails.of_eq (by
    unfold piece2
    rw [bigSep_sep', ← chunks_hops 0 c (fun k => hold (outM k 0) fullShare (outV X Wt 0 k) c), ← chunks_hops 1 c (fun k => hold (outM k 1) fullShare (outV X Wt 1 k) c)])).trans
    (outs_join X Wt c)

/-! ## Entry: the buffers -/

/-- The four buffers of slots and the result, dealt: where each neighbour's hops land, the spare slots, and the device's own. -/
theorem deal (c : Dev nD) (f : Buf (Elt F) (oLoc c)) : iprop(scratch c ∗ (oLoc c ↦{fullShare} f)) ⊢ (iprop(lands 0 c ∗ lands 1 c ∗ spare c ∗ blank c) : sProp 𝕄) := by
  unfold scratch spare blank
  iintro ⟨⟨H0, H1, H2, H3⟩, Ho⟩
  ihave H0 := (split0 c) $$ H0
  ihave H1 := (split1 c) $$ H1
  ihave H2 := (split2 c) $$ H2
  ihave H3 := (split3 c) $$ H3
  ihave Ho := (outs_split c f) $$ Ho
  icases Ho with ⟨Hl, Hr⟩
  ihave HA := (lands_intro 0 c) $$ [H2 Hl]
  · isplitl [H2] <;> iassumption
  ihave HB := (lands_intro 1 c) $$ [H3 Hr]
  · isplitl [H3] <;> iassumption
  icases HA with ⟨HA, HA7, HAo⟩
  icases HB with ⟨HB, HB7, HBo⟩
  isplitl [HA]; · iexact HA
  isplitl [HB]; · iexact HB
  isplitl [HA7 HB7]
  · isplitl [HA7] <;> iassumption
  isplitl [H0]; · iexact H0
  isplitl [H1]; · iexact H1
  isplitl [HAo] <;> iassumption

/-- Where a neighbour's hops land, with the record that the cells they credit are open, is what the neighbour is paid. -/
theorem pay_intro (h : Fin 2) (c : Dev nD) : iprop(lands h c ∗ bigSep (Finset.range 14) fun j => reached ER (recvCell h c j) 0) ⊢ (barPay h (fb h c) : sProp 𝕄) :=
  Entails.of_eq (by unfold lands barPay; rw [nb_fb, bigSep_sep'])

/-! ## Entry: the protocol's part -/

/-- Before its cells are open, what a device holds of hop `j` in direction `h`. -/
def pre1 (h : Fin 2) (c : Dev nD) (j : ℕ) : sProp 𝕄 :=
  iprop((dutyTok ER (sendCell h c j) 0 0 ∗ dutyTok ER (recvCell h (nb h c) j) 0 0) ∗ (openTok ER (sendCell h c j) ∗ openTok ER (recvCell h c j))
    ∗ cred (tallyAt (recvCell h c j) () N))
/-- The same once they are open. -/
def mid1 (h : Fin 2) (c : Dev nD) (j : ℕ) : sProp 𝕄 := iprop(hop h c j ∗ reached ER (recvCell h c j) 0)

/-- The two tokens a device pays its neighbours with, and its own barrier cell. -/
def bars (c : Dev nD) : sProp 𝕄 :=
  iprop((dutyTok ER (barCell (prv c)) 0 0 ∗ dutyTok ER (barCell (nxt c)) 0 1) ∗ (cred (tallyAt (barCell c) () 2) ∗ atPos ER (barCell c) 0 ∅ 0))

/-- The records every device may consult: every cell's invariant under one map of names; round 0 of every barrier cell reached. -/
def records (κ : GSem nD τ sig → ℕ) : sProp 𝕄 :=
  iprop((bigSep (barCells ∪ dmaCells) fun g => cellInv ER (talkRd X Wt) (κ g) g) ∗ bigSep barCells fun g => reached ER g 0)

instance records_persistent (κ : GSem nD τ sig → ℕ) : BI.Persistent (records X Wt κ) := by unfold records; infer_instance

theorem inv_of (κ : GSem nD τ sig → ℕ) {g : GSem nD τ sig} (hg : g ∈ barCells ∪ dmaCells) :
    (bigSep (barCells ∪ dmaCells) fun g => (cellInv ER (talkRd X Wt) (κ g) g : sProp 𝕄)) ⊢ cellInv ER (talkRd X Wt) (κ g) g := bigSep_elim hg
theorem reached_of (c : Dev nD) : (bigSep barCells fun g => (reached ER g 0 : sProp 𝕄)) ⊢ reached ER (barCell c) 0 :=
  bigSep_elim (Finset.mem_image_of_mem barCell (Finset.mem_univ c))

theorem inv_at (κ : GSem nD τ sig → ℕ) {g : GSem nD τ sig} (hg : g ∈ barCells ∪ dmaCells) :
    records X Wt κ ⊢ (cellInv ER (talkRd X Wt) (κ g) g : sProp 𝕄) := by
  unfold records
  iintro ⟨#H, -⟩
  iapply (inv_of X Wt κ hg); iexact H

theorem reached_at (κ : GSem nD τ sig → ℕ) (c : Dev nD) : records X Wt κ ⊢ (reached ER (barCell c) 0 : sProp 𝕄) := by
  unfold records
  iintro ⟨-, #H⟩
  iapply (reached_of (F := F) c); iexact H

def toBody (c : Dev nD) : sProp 𝕄 := iprop(∃ κ : GSem nD τ sig → ℕ, records X Wt κ ∗ levAts L lv ∗ bars c ∗ bigSep (Finset.range 14) fun j => iprop(mid1 0 c j ∗ mid1 1 c j))
def toCall (c : Dev nD) : sProp 𝕄 := iprop(∃ κ : GSem nD τ sig → ℕ, records X Wt κ ∗ bars c ∗ bigSep (Finset.range 14) fun j => iprop(pre1 0 c j ∗ pre1 1 c j))

/-- A hop's two cells opened. -/
theorem open1 (κ : GSem nD τ sig → ℕ) (h : Fin 2) (c : Dev nD) {j : ℕ} (hj : j < 14) :
    iprop(records X Wt κ ∗ pre1 h c j ∗ idle h c j) ⊢ (|={Set.univ}=> mid1 h c j : sProp 𝕄) := by
  unfold pre1 idle mid1 hop
  iintro ⟨#HR, ⟨⟨Ht, Ht'⟩, ⟨Ho, Ho'⟩, Hc⟩, Hs, Hs'⟩
  ihave #Hi := (inv_at X Wt κ (mem_send h c hj)) $$ HR
  ihave #Hi' := (inv_at X Wt κ (mem_recv h c hj)) $$ HR
  imod (Rounds.cell_open ER (talkRd X Wt) (g := sendCell h c j) (Set.mem_univ (κ (sendCell h c j)))) $$ [Ho Hs] with ⟨HatS, #HrS⟩
  · isplitr; · iexact Hi
    isplitl [Ho] <;> iassumption
  imod (Rounds.cell_open ER (talkRd X Wt) (g := recvCell h c j) (Set.mem_univ (κ (recvCell h c j)))) $$ [Ho' Hs'] with ⟨HatR, #HrR⟩
  · isplitr; · iexact Hi'
    isplitl [Ho'] <;> iassumption
  imodintro
  isplitl
  · isplitl [Ht]; · iexact Ht
    isplitl [Ht']; · iexact Ht'
    isplitl [HatS HatR Hc]
    · isplitl [HatS]; · iexact HatS
      isplitl [HatR] <;> iassumption
    iexact HrS
  iexact HrR

theorem open2 (κ : GSem nD τ sig → ℕ) (c : Dev nD) {j : ℕ} (hj : j < 14) :
    iprop(records X Wt κ ∗ ((pre1 0 c j ∗ pre1 1 c j) ∗ (idle 0 c j ∗ idle 1 c j))) ⊢ (|={Set.univ}=> (mid1 0 c j ∗ mid1 1 c j) : sProp 𝕄) := by
  iintro ⟨#HR, ⟨Ha, Hb⟩, Hc, Hd⟩
  imod (open1 X Wt κ 0 c hj) $$ [Ha Hc] with H0
  · isplitr; · iexact HR
    isplitl [Ha] <;> iassumption
  imod (open1 X Wt κ 1 c hj) $$ [Hb Hd] with H1
  · isplitr; · iexact HR
    isplitl [Hb] <;> iassumption
  imodintro
  isplitl [H0] <;> iassumption

theorem open_all (κ : GSem nD τ sig → ℕ) (c : Dev nD) :
    iprop(records X Wt κ ∗ (bigSep (Finset.range 14) fun j => iprop(pre1 0 c j ∗ pre1 1 c j)) ∗ bigSep (Finset.range 14) fun j => iprop(idle 0 c j ∗ idle 1 c j))
      ⊢ (|={Set.univ}=> bigSep (Finset.range 14) fun j => iprop(mid1 0 c j ∗ mid1 1 c j) : sProp 𝕄) := by
  rw [← bigSep_sep']
  exact (bigSep_with_persistent (R := records X Wt κ) (Φ := fun j => iprop((pre1 0 c j ∗ pre1 1 c j) ∗ (idle 0 c j ∗ idle 1 c j)))
    fun j hj => open2 X Wt κ c (Finset.mem_range.mp hj)).trans (bigSep_fupd _ _)

/-- The call entered: its own cells opened from their counters at zero. -/
theorem enter (c : Dev nD) : iprop(toCall X Wt c ∗ (bigSep (Finset.range 14) fun j => iprop(idle 0 c j ∗ idle 1 c j)) ∗ levAts L lv)
    ⊢ (|={Set.univ}=> toBody X Wt c : sProp 𝕄) := by
  unfold toCall toBody
  iintro ⟨⟨%κ, #HR, Hb, Hp⟩, Hi, HL⟩
  imod (open_all X Wt κ c) $$ [Hp Hi] with Hm
  · isplitr; · iexact HR
    isplitl [Hp] <;> iassumption
  imodintro
  iexists κ
  isplitr; · iexact HR
  isplitl [HL]; · iexact HL
  isplitl [Hb] <;> iassumption

theorem mids (c : Dev nD) : (bigSep (Finset.range 14) fun j => iprop(mid1 0 c j ∗ mid1 1 c j))
    ⊢ (iprop((bigSep (Finset.range 14) fun j => iprop(hop 0 c j ∗ hop 1 c j)) ∗ (bigSep (Finset.range 14) fun j => reached ER (recvCell 0 c j) 0)
      ∗ (bigSep (Finset.range 14) fun j => reached ER (recvCell 1 c j) 0)) : sProp 𝕄) := by
  unfold mid1
  rw [bigSep_sep', bigSep_sep', bigSep_sep', bigSep_sep']
  iintro ⟨⟨Ha, Hb⟩, Hc, Hd⟩
  isplitl [Ha Hc]
  · isplitl [Ha] <;> iassumption
  isplitl [Hb] <;> iassumption

/-- What the body is given, from the protocol's part and the places the neighbours' hops land. -/
theorem given_intro (κ : GSem nD τ sig → ℕ) (c : Dev nD) :
    iprop(records X Wt κ ∗ bars c ∗ (bigSep (Finset.range 14) fun j => iprop(mid1 0 c j ∗ mid1 1 c j)) ∗ lands 0 c ∗ lands 1 c) ⊢ (given c : sProp 𝕄) := by
  unfold bars given
  iintro ⟨#HR, ⟨⟨Ht0, Ht1⟩, Hbar⟩, Hm, Hl0, Hl1⟩
  ihave Hm := (mids c) $$ Hm
  icases Hm with ⟨Hh, Hr0, Hr1⟩
  isplitl [Ht0 Hl0 Hr0]
  · isplitl [Ht0]; · iexact Ht0
    isplitr; · iapply (reached_at X Wt κ (prv c)); iexact HR
    iapply (pay_intro 0 c); isplitl [Hl0] <;> iassumption
  isplitl [Ht1 Hl1 Hr1]
  · isplitl [Ht1]; · iexact Ht1
    isplitr; · iapply (reached_at X Wt κ (nxt c)); iexact HR
    iapply (pay_intro 1 c); isplitl [Hl1] <;> iassumption
  isplitl [Hbar]; · iexact Hbar
  iexact Hh

/-- THE BODY, over whole buffers: entered with the protocol's part and the four buffers of slots and the result at any contents,
    it leaves the operands as they were, the result at the sum over the ring, and every counter of its own at zero. -/
theorem body_whole (c : Dev nD) (f : Buf (Elt F) (oLoc c)) (Kt : PUnit → sProp (MT nD τ sig Unit (Elt F) ℕ UU ℕ)) :
    iprop(toBody X Wt c ∗ scratch c ∗ blocks X Wt c ∗ (oLoc c ↦{fullShare} f) ∗ due c 0
        ∗ ((scratch c ∗ blocks X Wt c ∗ (oLoc c ↦{fullShare} outW X Wt) ∗ (bigSep (Finset.range 14) fun j => iprop(idle 0 c j ∗ idle 1 c j))
            ∗ semVal (barCell c) 0 ∗ due c 30) -∗ Kt ⟨⟩))
      ⊢ wp frame (wpE (Name := ℕ) (U := UU) (Lvl := ℕ) (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6) Kt := by
  unfold toBody
  iintro ⟨⟨%κ, #HR, HL, Hb, Hm⟩, Hs, HX, Ho, HO, Hk⟩
  ihave Hd := (deal c f) $$ [Hs Ho]
  · isplitl [Hs] <;> iassumption
  icases Hd with ⟨Hl0, Hl1, Hsp, Hbl⟩
  iapply (body_run X Wt κ (records X Wt κ) (fun g hg => inv_at X Wt κ hg) c Kt)
  isplitr; · iexact HR
  isplitl [HL]; · iexact HL
  isplitl [Hb Hm Hl0 Hl1]
  · iapply (given_intro X Wt κ c)
    isplitr; · iexact HR
    isplitl [Hb]; · iexact Hb
    isplitl [Hm]; · iexact Hm
    isplitl [Hl0] <;> iassumption
  isplitl [Hbl]; · iexact Hbl
  isplitl [HX]; · iexact HX
  isplitl [HO]; · iexact HO
  iintro ⟨HX, Hsp', Hp, Hb, HO⟩
  ihave Hsp' := (leave_spent c) $$ Hsp'
  icases Hsp' with ⟨Hi, Hbuf, Hcom⟩
  iapply Hk
  isplitl [Hsp Hbuf Hcom]
  · iapply (scratch_back c)
    isplitl [Hsp]; · iexact Hsp
    isplitl [Hbuf] <;> iassumption
  isplitl [HX]; · iexact HX
  isplitl [Hp]; · iapply (result_back X Wt c); iexact Hp
  isplitl [Hi]; · iexact Hi
  isplitl [Hb] <;> iassumption

end Cert.KernelIdeal.Talk

end
-- ==== Proof.Region.lean ====
/-
# The call as one region of @main

The proof data of the one `pallas_call`, its body obligation from the run of the body, and the region's record: entered with the
unscoped buffers at the contents the host stretch leaves, left with the result's array at the sum over the ring.
-/
module

public import proofs.«01_k».proof.Proof.Enter
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit

@[expose] public section

set_option maxRecDepth 16384

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose RegionSeg)

variable {F : FTy → Type} [FloatOps F]

local notation "𝕄" => MT nD τ sig Unit (Elt F) ℕ UU ℕ

variable (m : (ℓ : Loc nD τ sig) → Buf (Elt F) ℓ)

/-! ## The operands and the result -/

/-- A device's block of the left operand, and of the right, as the body reads them. -/
def xstg (c : Dev nD) : (cc0_stg0_0 : Ref sig .tc).ty.Contents (Elt F) := (win0_0.blk (0 : Fin 1)).view.read (Elt F) (V1 m c main_arg0)
def wstg (c : Dev nD) : (cc0_stg1_0 : Ref sig .tc).ty.Contents (Elt F) := (win0_1.blk (0 : Fin 1)).view.read (Elt F) (V1 m c main_v10)
/-- The result, the same on every device. -/
def resW : (cc0_stg2_0 : Ref sig .tc).ty.Contents (Elt F) := outW (xstg m) (wstg m)

/-- What the call leaves in its result's array. -/
def outs : Outs (F := F) := fun _ r c => Function.update (β := fun r : Ref sig .tc => Buf (Elt F) ((c : Thread nD τ).loc r)) (fun r => V1 m c r) main_v11 (resW m) r
theorem outs_eq (c : Dev nD) : outs m 2 main_v11 c = resW m := by unfold outs; rw [Function.update_self]

/-! ## The proof data -/

/-- The call's own counters: hop `j`, direction `h`, send or receive. -/
abbrev Kc : Type := Fin 14 × (Fin 2 × Fin 2)
def osem (k : Kc) : SemLoc sig := .dma (if k.2.2 = 0 then sendS k.2.1 k.1.val else recvS k.2.1 k.1.val)

def Φ₀ (c : Dev nD) : sProp 𝕄 := iprop(Pipeline.scopedRest spec0 c ∗ (∃ r, prngReg c r) ∗ toBody (xstg m) (wstg m) c)
def Φ₁ (c : Dev nD) : sProp 𝕄 := iprop(Pipeline.scopedRest spec0 c ∗ (∃ r, prngReg c r) ∗ Pipeline.ownSems0 osem c ∗ semVal (barCell c) 0)

def dats (_ : Fin 1) (c : Dev nD) : Dat τ (Elt F) Unit ℕ UU ℕ cfg0 c where
  A w := V1 m c (Proc.devRef .tc (Pipeline.arrRef spec0 w))
  after w _ := match w with
    | ⟨0, _⟩ => xstg m c
    | ⟨1, _⟩ => wstg m c
    | ⟨2, _⟩ => resW m
  Φ t := match t with
    | ⟨0, _⟩ => Φ₀ m c
    | ⟨_ + 1, _⟩ => Φ₁ c
  q _ := fullShare
  owed t := match t with
    | ⟨0, _⟩ => owed c 0
    | ⟨_ + 1, _⟩ => 0

theorem bigSep_W (Φ : Fin cfg0.W → sProp (MT nD τ sig Unit (Elt F) ℕ UU ℕ)) : bigSep Finset.univ Φ = iprop(Φ (0 : Fin 3) ∗ Φ (1 : Fin 3) ∗ Φ (2 : Fin 3)) := bigSep_W0 Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ c ∗ (dats m 0 c).owesAt () t0_0.succ ∗ stg c cc0_stg0_0 (xstg m c) ∗ stg c cc0_stg1_0 (wstg m c) ∗ stg c cc0_stg2_0 (resW m))

/-! ## The own counters, hop by hop -/

theorem bigSep_K (Ψ : Kc → sProp (MT nD τ sig Unit (Elt F) ℕ UU ℕ)) (Ψ' : Fin 2 → Fin 2 → ℕ → sProp (MT nD τ sig Unit (Elt F) ℕ UU ℕ))
    (hΨ : ∀ k, Ψ k = Ψ' k.2.1 k.2.2 k.1.val) :
    bigSep Finset.univ Ψ = bigSep (Finset.range 14) fun j => iprop((Ψ' 0 0 j ∗ Ψ' 0 1 j) ∗ (Ψ' 1 0 j ∗ Ψ' 1 1 j)) := by
  have h : bigSep (Finset.range 14) (fun j => iprop((Ψ' 0 0 j ∗ Ψ' 0 1 j) ∗ (Ψ' 1 0 j ∗ Ψ' 1 1 j)))
      = bigSep Finset.univ fun j : Fin 14 => iprop((Ψ' 0 0 j.val ∗ Ψ' 0 1 j.val) ∗ (Ψ' 1 0 j.val ∗ Ψ' 1 1 j.val)) :=
    (Ring.bigSep_fin_eq_range 14 _ _ fun t h => rfl).symm
  rw [bigSep_univ_prod, h]
  refine bigSep_congr fun j _ => ?_
  rw [bigSep_univ_prod, BI.bigSep_fin_two, BI.bigSep_fin_two, BI.bigSep_fin_two, hΨ, hΨ, hΨ, hΨ]
  rfl

theorem ownSems_eq (c : Dev nD) : (Pipeline.ownSems0 osem c : sProp 𝕄) = bigSep (Finset.range 14) fun j => iprop(idle 0 c j ∗ idle 1 c j) := by
  unfold idle
  exact bigSep_K (fun k => semVal ((c : Thread nD τ), osem k) 0)
    (fun h s j => semVal ((c : Thread nD τ), .dma (if s = 0 then sendS h j else recvS h j)) 0) fun k => rfl

theorem rest_scratch (c : Dev nD) : (Pipeline.scopedRest spec0 c : sProp 𝕄) = scratch c := scopedRest0_eq c

theorem body_obligation (c : Dev nD) : BodyObligation (dats m 0 c) (defs₀ (F := F)) 𝒱₀ () Set.univ := fun t => by
  rw [fin_N0 t]
  rw [bigSep_W, bigSep_W]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6) (fun _ => bodyPost m c)
  unfold bodyPre Φ₀
  rw [rest_scratch]
  iintro ⟨⟨Hs, Hp, Hb⟩, Ho, ⟨%d0, %g0, %hg0, Hx⟩, ⟨%d1, %g1, %hg1, Hw⟩, ⟨%d2, %g2, %hg2, Hout⟩⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx
  subst hw
  unfold Dat.owesAt Pipeline.owesWithin
  icases Ho with ⟨%W, %hW, HO⟩
  iapply (body_whole (xstg m) (wstg m) c g2 fun _ => bodyPost m c)
  isplitl [Hb]; · iexact Hb
  isplitl [Hs]; · iexact Hs
  isplitl [Hx Hw]
  · unfold blocks; isplitl [Hx]; · iexact Hx
    iexact Hw
  isplitl [Hout]; · iexact Hout
  isplitl [HO]
  · unfold due; iexists W; iexact HO
  unfold blocks due
  iintro ⟨Hs, ⟨Hx, Hw⟩, Hout, Hi, Hbar, ⟨%W', HO⟩⟩
  unfold bodyPost Φ₁ Dat.owesAt Pipeline.owesWithin
  rw [rest_scratch, ownSems_eq, show (dats m 0 c).owed t0_0.succ = owed c 30 from (owed_end c).symm]
  isplitl [Hs Hp Hi Hbar]
  · isplitl [Hs]; · iexact Hs
    isplitl [Hp]; · iexact Hp
    isplitl [Hi] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

/-! ## The region's record -/

theorem osem_ok : Pipeline.OwnSemFacts spec0 osem := by decide +kernel

theorem share_eq (c : Dev nD) (w : Fin cfg0.W) : (dats m 0 c).share w = fullShare := by unfold Dat.share; split <;> rfl

theorem stage_lv : ∀ (w : Fin cfg0.W) (s : Fin (cfg0.win w).nbuf), ((cfg0.win w).sem s).val < 31 := by decide

theorem owed_at0 (c : Dev nD) (hn : 0 < cfg0.N + 1) : (dats m 0 c).owed ⟨0, hn⟩ = owed c 0 := rfl
theorem owed_at1 (c : Dev nD) (n : ℕ) (hn : n + 1 < cfg0.N + 1) : (dats m 0 c).owed ⟨n + 1, hn⟩ = 0 := rfl
theorem owes_cell (c : Dev nD) (t : Fin (cfg0.N + 1)) (g : GSem nD τ sig) (i : Unit) (h : 0 < (dats m 0 c).owed t g i) : ∃ k, k < 30 ∧ g = payCell c k := by
  rcases t with ⟨_ | n, hn⟩
  · rw [owed_at0] at h
    obtain ⟨k, -, hk, hg⟩ := owed_pos h
    exact ⟨k, hk, hg⟩
  · rw [owed_at1, Pi.zero_apply, Finsupp.zero_apply] at h
    exact absurd h (Nat.lt_irrefl 0)

theorem cut : Pipeline.LevelCutOwed (pcfgs (F := F)) adm (dats m) () L lv 0 (fun _ => 0) where
  hι c w s := by rw [L_tc]; exact Finset.mem_singleton_self _
  hιb c w s := le_of_eq (if_pos (stage_lv w s))
  hD c t g i h := by
    obtain ⟨k, hk, hg⟩ := owes_cell m c t g i h
    subst hg
    refine ⟨by rw [L_pay]; exact Finset.mem_singleton_self _, ?_⟩
    rw [lv_pay c hk]; omega

/-- The references no window's array is. -/
abbrev others : Finset (DevRef τ sig) := Pipeline.ucRefs τ sig \ Pipeline.arrRefs (τ := τ) spec0

theorem arr_sub : Pipeline.arrRefs (τ := τ) spec0 ⊆ Pipeline.ucRefs τ sig := Pipeline.arrRefs_sub_ucRefs spec0 winFacts0.arr_unscoped

theorem res_arr : (Proc.devRef .tc main_v11 : DevRef τ sig) ∈ Pipeline.arrRefs (τ := τ) spec0 :=
  Finset.mem_map_of_mem _ (Finset.mem_image_of_mem _ (Finset.mem_univ (2 : Fin 3)))

theorem final0 (c : Dev nD) : (dats m 0 c).arrAt (0 : Fin 3) cfg0.N = V2 m (outs m) c (Proc.devRef .tc main_arg0) :=
  ((dats m 0 c).arrAt_in (0 : Fin 3) rfl _).trans (V2_of m (outs m) c main_arg0 (by decide)).symm
theorem final1 (c : Dev nD) : (dats m 0 c).arrAt (1 : Fin 3) cfg0.N = V2 m (outs m) c (Proc.devRef .tc main_v10) :=
  ((dats m 0 c).arrAt_in (1 : Fin 3) rfl _).trans (V2_of m (outs m) c main_v10 (by decide)).symm
theorem out_whole : (cfg0.win (2 : Fin 3)).WholeAt t0_0 := by decide +kernel
theorem final2 (c : Dev nD) : (dats m 0 c).arrAt (2 : Fin 3) cfg0.N = V2 m (outs m) c (Proc.devRef .tc main_v11) := by
  refine ((dats m 0 c).arrAt_eq_of_after_last (2 : Fin 3) t0_0 out_whole (resW m) ?_).trans ?_
  · intro j; rfl
  · show _ = Function.update (V1 m c) (Proc.devRef .tc main_v11) (outs m 2 main_v11 c) (Proc.devRef .tc main_v11)
    rw [Function.update_self, outs_eq]

abbrev Tk (c : Dev nD) : sProp 𝕄 := toCall (xstg m) (wstg m) c

/-- The call as a region. -/
def reg0 : RegionSeg (pcfgs (F := F)) adm (dats m) () defs₀ 𝒱₀ L lv 0 :=
  Pipeline.RegionSeg.ofTalk (pcfgs (F := F)) adm (dats m) () defs₀ 𝒱₀ L lv 0 osem osem_ok ∅ others (Finset.empty_subset _)
    launch0.toP rfl (fun c => (body_obligation m c).loose) (fun _ => 0) (fun c => owed c 0) (fun c => (zero_add _).symm) (fun _ => rfl) (fun _ => rfl)
    (share_eq m) (V1 m) (V2 m (outs m))
    (fun c b hb => by
      have hne : b ≠ (Proc.devRef .tc main_v11 : DevRef τ sig) := fun h => by
        subst h; exact (Finset.mem_sdiff.mp (Finset.mem_sdiff.mp hb).1).2 res_arr
      exact Function.update_of_ne hne _ _)
    (Tk m) (fun c => semVal (barCell c) 0) (fun c => toBody (xstg m) (wstg m) c) (fun c => semVal (barCell c) 0)
    (fun c => by rw [ownSems_eq]; exact enter (xstg m) (wstg m) c)
    (fun c => by
      show _ ⊢ Φ₀ m c
      unfold Φ₀
      iintro ⟨Hs, Hp, -, HX⟩
      isplitl [Hs]; · iexact Hs
      isplitl [Hp] <;> iassumption)
    (fun c => by
      show Φ₁ c ⊢ _
      unfold Φ₁ StableHlo.held
      rw [BI.bigSep_empty]
      iintro ⟨Hs, Hp, Ho, Hb⟩
      isplitl [Hs]; · iexact Hs
      isplitl [Hp]; · iexact Hp
      isplitr; · iempintro
      isplitl [Ho] <;> iassumption)
    (fun c => by iintro H; imodintro; iexact H)
    (fun _ => 0) (cut m) (fun _ => iprop(emp))
    (fun c w => rfl)
    (fun c w => match w with
      | ⟨0, _⟩ => final0 m c
      | ⟨1, _⟩ => final1 m c
      | ⟨2, _⟩ => final2 m c)

end Cert.KernelIdeal.Talk

end
-- ==== Proof.Launch.lean ====
/-
# The launch

Every cell's invariant is allocated at the launch, the call's own cells dormant; every right to pay is dealt to the device that
pays; the launch credit of a cell is what the ring owes it. Then the run of @main.
-/
module

public import proofs.«01_k».proof.Proof.Region
public import Idealize.ShloMosaic.Lib.Quiescent

@[expose] public section

set_option maxRecDepth 16384

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg)

variable {F : FTy → Type} [FloatOps F]

local notation "𝕄" => MT nD τ sig Unit (Elt F) ℕ UU ℕ

/-! ## The cells and the tokens -/

def barEmb : Dev nD ↪ GSem nD τ sig := ⟨fun c => barCell c, fun _ _ h => congrArg (fun g : GSem nD τ sig => g.1.1) h⟩
def ownEmb : Dev nD × Kc ↪ GSem nD τ sig :=
  ⟨fun ck => ((ck.1 : Thread nD τ), osem ck.2), fun _ _ h =>
    Prod.ext (congrArg (fun g : GSem nD τ sig => g.1.1) h) (osem_ok.inj (congrArg Prod.snd h))⟩

theorem barCells_eq : barCells = Finset.univ.map barEmb := by unfold barCells; rw [Finset.map_eq_image]; rfl

theorem dmaCells_eq : dmaCells = Finset.univ.map ownEmb := by
  ext g
  unfold dmaCells
  rw [Finset.mem_union, Finset.mem_image, Finset.mem_image, Finset.mem_map]
  constructor
  · rintro (⟨⟨⟨h, c⟩, j⟩, hp, rfl⟩ | ⟨⟨⟨h, c⟩, j⟩, hp, rfl⟩)
    · exact ⟨(c, (⟨j, Finset.mem_range.mp (Finset.mem_product.mp hp).2⟩, (h, 0))), Finset.mem_univ _, rfl⟩
    · exact ⟨(c, (⟨j, Finset.mem_range.mp (Finset.mem_product.mp hp).2⟩, (h, 1))), Finset.mem_univ _, rfl⟩
  · rintro ⟨⟨c, ⟨j, h, s⟩⟩, -, rfl⟩
    match s with
    | ⟨0, _⟩ => exact Or.inl ⟨((h, c), j.val), mem_hopIx h c j.isLt, rfl⟩
    | ⟨1, _⟩ => exact Or.inr ⟨((h, c), j.val), mem_hopIx h c j.isLt, rfl⟩

theorem disjoint_cells : Disjoint barCells dmaCells := by
  rw [barCells_eq, dmaCells_eq, Finset.disjoint_left]
  rintro g h₁ h₂
  obtain ⟨c, -, rfl⟩ := Finset.mem_map.mp h₁
  obtain ⟨ck, -, h⟩ := Finset.mem_map.mp h₂
  exact absurd (congrArg Prod.snd h) (fun h' => by cases h')

/-- The two duties of each barrier cell, and the one of each of the call's own cells. -/
def barToks : Finset (GSem nD τ sig × ℕ × Fin 2) :=
  Finset.univ.map ⟨fun cd : Dev nD × Fin 2 => (barCell cd.1, 0, cd.2), fun _ _ h =>
    Prod.ext (congrArg (fun t : GSem nD τ sig × ℕ × Fin 2 => t.1.1.1) h) (congrArg (fun t : GSem nD τ sig × ℕ × Fin 2 => t.2.2) h)⟩
def ownToks : Finset (GSem nD τ sig × ℕ × Fin 2) :=
  Finset.univ.map ⟨fun ck : Dev nD × Kc => (ownEmb ck, 0, 0), fun _ _ h => ownEmb.injective (congrArg Prod.fst h)⟩
def talkToks : Finset (GSem nD τ sig × ℕ × Fin 2) := barToks ∪ ownToks

theorem disjoint_toks : Disjoint barToks ownToks := by
  rw [Finset.disjoint_left]
  rintro g h₁ h₂
  obtain ⟨c, -, rfl⟩ := Finset.mem_map.mp h₁
  obtain ⟨ck, -, h⟩ := Finset.mem_map.mp h₂
  exact absurd (congrArg (fun t : GSem nD τ sig × ℕ × Fin 2 => t.1.2) h) (fun h' => by cases h')

/-- The launch element: the staging cells' and the protocol's. -/
def u₀ : UU :=
  (initOf (Pipeline.cells cfgs cellOf_inj) (Pipeline.launchToks cfgs cellOf_inj),
    launchOf barCells dmaCells talkToks)

/-- A resource held by one device of all. -/
def onDev (c₀ : Dev nD) (P : sProp (MT nD τ sig Unit (Elt F) ℕ UU ℕ)) (c : Dev nD) : sProp (MT nD τ sig Unit (Elt F) ℕ UU ℕ) := if c = c₀ then P else iprop(emp)
theorem bigSep_onDev (c₀ : Dev nD) (P : sProp (MT nD τ sig Unit (Elt F) ℕ UU ℕ)) : bigSep Finset.univ (onDev c₀ P) = P := by
  have h : bigSep (Finset.univ.erase c₀) (onDev c₀ P) = bigSep (Finset.univ.erase c₀) (fun _ => (BI.emp : sProp (MT nD τ sig Unit (Elt F) ℕ UU ℕ))) :=
    bigSep_congr fun c hc => if_neg (Finset.ne_of_mem_erase hc)
  rw [bigSep_univ_at _ c₀, h, BI.bigSep_emp_const]
  unfold onDev; rw [if_pos rfl]
  exact BI.equiv_iff.mp sep_emp

/-- The launch element of the protocol, on the first device until it is dealt. -/
def G : Dev nD → sProp (MT nD τ sig Unit (Elt F) ℕ UU ℕ) := onDev 0 (BI.own (ER (launchOf barCells dmaCells talkToks)))

/-! ## Dealing the tokens around the ring -/

def nbE (h : Fin 2) : Dev nD ≃ Dev nD := ⟨nb h, fb h, fb_nb h, nb_fb h⟩

/-- The tokens of a device's own hops, paid at its neighbours. -/
def hopToks (c : Dev nD) : sProp 𝕄 :=
  bigSep (Finset.range 14) fun j => iprop((dutyTok ER (sendCell 0 c j) 0 0 ∗ dutyTok ER (recvCell 0 (nb 0 c) j) 0 0)
    ∗ (dutyTok ER (sendCell 1 c j) 0 0 ∗ dutyTok ER (recvCell 1 (nb 1 c) j) 0 0))
def barToks' (c : Dev nD) : sProp 𝕄 := iprop(dutyTok ER (barCell (prv c)) 0 0 ∗ dutyTok ER (barCell (nxt c)) 0 1)
def hopOpens (c : Dev nD) : sProp 𝕄 :=
  bigSep (Finset.range 14) fun j => iprop((openTok ER (sendCell 0 c j) ∗ openTok ER (recvCell 0 c j)) ∗ (openTok ER (sendCell 1 c j) ∗ openTok ER (recvCell 1 c j)))
def hopCreds (c : Dev nD) : sProp 𝕄 :=
  bigSep (Finset.range 14) fun j => iprop(cred (tallyAt (recvCell 0 c j) () N) ∗ cred (tallyAt (recvCell 1 c j) () N))

/-- A family over a device's own cells, device by device and hop by hop. -/
theorem by_hop (Φ : GSem nD τ sig → sProp (MT nD τ sig Unit (Elt F) ℕ UU ℕ)) (c : Dev nD) :
    (bigSep Finset.univ fun k : Kc => Φ (ownEmb (c, k)))
      = bigSep (Finset.range 14) fun j => iprop((Φ (sendCell 0 c j) ∗ Φ (recvCell 0 c j)) ∗ (Φ (sendCell 1 c j) ∗ Φ (recvCell 1 c j))) :=
  bigSep_K (fun k => Φ (ownEmb (c, k))) (fun h s j => Φ ((c : Thread nD τ), .dma (if s = 0 then sendS h j else recvS h j))) fun k => rfl

theorem opens_eq : bigSep dmaCells (fun g => (openTok ER g : sProp 𝕄)) = bigSep Finset.univ fun c : Dev nD => hopOpens c := by
  rw [dmaCells_eq, bigSep_map, bigSep_univ_prod]
  exact bigSep_congr fun c _ => by_hop (fun g => openTok ER g) c

theorem barToks_eq : bigSep barToks (fun x => (dutyTok ER x.1 x.2.1 x.2.2 : sProp 𝕄)) = bigSep Finset.univ fun c : Dev nD => barToks' c := by
  have h : bigSep barToks (fun x => (dutyTok ER x.1 x.2.1 x.2.2 : sProp 𝕄))
      = bigSep Finset.univ fun c : Dev nD => iprop(dutyTok ER (barCell c) 0 0 ∗ dutyTok ER (barCell c) 0 1) := by
    unfold barToks
    rw [bigSep_map, bigSep_univ_prod]
    exact bigSep_congr fun c _ => BI.bigSep_fin_two _
  rw [h]
  unfold barToks'
  rw [bigSep_sep', bigSep_sep', bigSep_univ_equiv (nbE 1) (fun c : Dev nD => (dutyTok ER (barCell c) 0 0 : sProp 𝕄)),
    bigSep_univ_equiv (nbE 0) (fun c : Dev nD => (dutyTok ER (barCell c) 0 1 : sProp 𝕄))]
  rfl

def sendToks (h : Fin 2) (c : Dev nD) : sProp 𝕄 := bigSep (Finset.range 14) fun j => dutyTok ER (sendCell h c j) 0 0
def recvToks (h : Fin 2) (c : Dev nD) : sProp 𝕄 := bigSep (Finset.range 14) fun j => dutyTok ER (recvCell h c j) 0 0

theorem hopToks_eq (c : Dev nD) : (hopToks c : sProp 𝕄) = iprop((sendToks 0 c ∗ recvToks 0 (nb 0 c)) ∗ (sendToks 1 c ∗ recvToks 1 (nb 1 c))) := by
  unfold hopToks sendToks recvToks
  rw [bigSep_sep', bigSep_sep', bigSep_sep']

theorem ownToks_eq : bigSep ownToks (fun x => (dutyTok ER x.1 x.2.1 x.2.2 : sProp 𝕄)) = bigSep Finset.univ fun c : Dev nD => hopToks c := by
  have h : bigSep ownToks (fun x => (dutyTok ER x.1 x.2.1 x.2.2 : sProp 𝕄))
      = bigSep Finset.univ fun c : Dev nD => iprop((sendToks 0 c ∗ recvToks 0 c) ∗ (sendToks 1 c ∗ recvToks 1 c)) := by
    unfold ownToks
    rw [bigSep_map, bigSep_univ_prod]
    refine bigSep_congr fun c _ => (by_hop (fun g => dutyTok ER g 0 0) c).trans ?_
    unfold sendToks recvToks
    rw [bigSep_sep', bigSep_sep', bigSep_sep']
  rw [h, bigSep_congr (s := Finset.univ) fun c _ => hopToks_eq c]
  rw [bigSep_sep', bigSep_sep', bigSep_sep', bigSep_sep', bigSep_sep', bigSep_sep', bigSep_univ_equiv (nbE 0) (fun c : Dev nD => (recvToks 0 c : sProp 𝕄)),
    bigSep_univ_equiv (nbE 1) (fun c : Dev nD => (recvToks 1 c : sProp 𝕄))]
  rfl

/-! ## The launch credit -/

theorem payCell_far (d : Dev nD) {k : ℕ} (hk : 2 ≤ k) (hk' : k < 30) : ∃ (h : Fin 2) (j : ℕ), j < 14 ∧ k = 2 + 2 * j + h.val ∧ payCell d k = recvCell h (nb h d) j := by
  refine ⟨⟨k % 2, Nat.mod_lt _ (by decide)⟩, (k - 2) / 2, by omega, by dsimp only; omega, ?_⟩
  rw [← payCell_hop]
  exact congrArg (payCell d) (by dsimp only; omega)

theorem recv_inj {h h' : Fin 2} {c c' : Dev nD} {j j' : ℕ} (hj : j < 14) (hj' : j' < 14) (e : recvCell h c j = recvCell h' c' j') : h = h' ∧ c = c' ∧ j = j' := by
  have hc : c = c' := congrArg (fun g : GSem nD τ sig => g.1.1) e
  have hs : SemLoc.dma (sig := sig) (recvS h j) = .dma (recvS h' j') := congrArg Prod.snd e
  have hq : recvS h j = recvS h' j' := by injection hs
  have h1 := recvS_dec h j hj
  have h2 := recvS_dec h' j' hj'
  rw [hq] at h1
  exact ⟨h1.2.1.symm.trans h2.2.1, hc, h1.2.2.symm.trans h2.2.2⟩

theorem owed_apply (d : Dev nD) (g : GSem nD τ sig) : owed d 0 g () = ∑ k ∈ Finset.Ico 0 30, if g = payCell d k ∧ () = () then payAmt k else 0 := by
  unfold owed
  rw [Finset.sum_apply, Finsupp.finset_sum_apply]
  exact Finset.sum_congr rfl fun k _ => tallyAt_apply _ _ _ _ _

theorem owed_recv (d c : Dev nD) (h : Fin 2) {j : ℕ} (hj : j < 14) : owed d 0 (recvCell h c j) () = if d = fb h c then N else 0 := by
  rw [owed_apply]
  by_cases hd : d = fb h c
  · subst hd
    rw [if_pos rfl, Finset.sum_eq_single (2 + 2 * j + h.val)]
    · rw [payCell_hop, nb_fb, if_pos ⟨rfl, rfl⟩, payAmt_hop]
    · intro k hk hne
      refine if_neg fun ⟨e, _⟩ => ?_
      by_cases h2 : 2 ≤ k
      · obtain ⟨h', j', hj', hkk, hp⟩ := payCell_far (fb h c) h2 (Finset.mem_Ico.mp hk).2
        obtain ⟨rfl, -, rfl⟩ := recv_inj hj hj' (e.trans hp)
        exact hne hkk
      · have : k = 0 ∨ k = 1 := by omega
        rcases this with rfl | rfl
        · exact absurd (congrArg Prod.snd e) fun h' => by cases h'
        · exact absurd (congrArg Prod.snd e) fun h' => by cases h'
    · intro hn
      exact absurd (Finset.mem_Ico.mpr ⟨Nat.zero_le _, by have := h.isLt; omega⟩) hn
  · rw [if_neg hd]
    refine Finset.sum_eq_zero fun k hk => if_neg fun ⟨e, _⟩ => ?_
    by_cases h2 : 2 ≤ k
    · obtain ⟨h', j', hj', hkk, hp⟩ := payCell_far d h2 (Finset.mem_Ico.mp hk).2
      obtain ⟨rfl, rfl, rfl⟩ := recv_inj hj hj' (e.trans hp)
      exact hd (fb_nb h d).symm
    · have : k = 0 ∨ k = 1 := by omega
      rcases this with rfl | rfl
      · exact absurd (congrArg Prod.snd e) fun h' => by cases h'
      · exact absurd (congrArg Prod.snd e) fun h' => by cases h'

theorem bar_eq_iff (c d : Dev nD) (h : Fin 2) : (barCell c = barCell (fb h d) ∧ () = ()) ↔ d = nb h c :=
  ⟨fun ⟨e, _⟩ => by rw [show c = fb h d from congrArg (fun g : GSem nD τ sig => g.1.1) e, nb_fb], fun e => by subst e; rw [fb_nb]; exact ⟨rfl, rfl⟩⟩

theorem owed_bar (d c : Dev nD) : owed d 0 (barCell c) () = (if d = nb 0 c then 1 else 0) + (if d = nb 1 c then 1 else 0) := by
  rw [owed_apply, Finset.sum_eq_sum_Ico_succ_bot (by decide), Finset.sum_eq_sum_Ico_succ_bot (by decide), Finset.sum_eq_zero (s := Finset.Ico (0 + 1 + 1) 30)]
  · show (if barCell c = barCell (fb 0 d) ∧ () = () then 1 else 0) + ((if barCell c = barCell (fb 1 d) ∧ () = () then 1 else 0) + 0) = _
    rw [if_congr (bar_eq_iff c d 0) rfl rfl, if_congr (bar_eq_iff c d 1) rfl rfl, Nat.add_zero]
  · intro k hk
    refine if_neg fun ⟨e, _⟩ => ?_
    obtain ⟨h', j', hj', hkk, hp⟩ := payCell_far d (Finset.mem_Ico.mp hk).1 (Finset.mem_Ico.mp hk).2
    exact absurd (congrArg Prod.snd (e.trans hp)) fun h' => by cases h'

theorem launch_bar (c : Dev nD) :
    tallyOn (barCell c) (launchCredit (Pipeline.owing fun c => owed c 0) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nb 0 c) fun _ => 1, Finset.sum_ite_eq' Finset.univ (nb 1 c) fun _ => 1, if_pos (Finset.mem_univ _), if_pos (Finset.mem_univ _)]

theorem launch_recv (c : Dev nD) (h : Fin 2) {j : ℕ} (hj : j < 14) :
    tallyOn (recvCell h c j) (launchCredit (Pipeline.owing fun c => owed c 0) 0 (recvCell h c j)) = (tallyAt (recvCell h c j) () N : CellTallies nD τ sig Unit) := by
  unfold tallyAt; refine congrArg _ (Finsupp.ext fun u => ?_); cases u
  rw [Pipeline.launchCredit_owing, Finsupp.single_eq_same, Finset.sum_congr rfl fun d _ => owed_recv d c h hj, Finset.sum_ite_eq' Finset.univ (fb h c) fun _ => N,
    if_pos (Finset.mem_univ _)]

def recvEmb : Fin 14 × Fin 2 ↪ SemLoc sig := ⟨fun p => .dma (recvS p.2 p.1.val), fun a b e => by
  have hq : recvS a.2 a.1.val = recvS b.2 b.1.val := by injection e
  have h1 := recvS_dec a.2 a.1.val a.1.isLt
  have h2 := recvS_dec b.2 b.1.val b.1.isLt
  rw [hq] at h1
  exact Prod.ext (Fin.ext (h1.2.2.symm.trans h2.2.2)) (h1.2.1.symm.trans h2.2.1)⟩

theorem creds_recv (c : Dev nD) :
    (bigSep (Finset.univ.map recvEmb) fun sm : SemLoc sig => cred (tallyOn ((c.tc : Thread nD τ), sm) (launchCredit (Pipeline.owing fun c => owed c 0) 0 ((c.tc : Thread nD τ), sm))) : sProp 𝕄)
      = hopCreds c := by
  unfold hopCreds
  rw [bigSep_map, bigSep_univ_prod]
  refine Ring.bigSep_fin_eq_range 14 _ _ fun t ht => ?_
  rw [BI.bigSep_fin_two, ← launch_recv c 0 ht, ← launch_recv c 1 ht]
  rfl

theorem creds (c : Dev nD) : (Pipeline.launchCred (fun c => owed c 0) c : sProp 𝕄) ⊢ iprop(cred (tallyAt (barCell c) () 2) ∗ hopCreds c) := by
  unfold Pipeline.launchCred
  rw [bigSep_univ_at _ (SemLoc.reg barS), launch_bar, ← creds_recv]
  refine sep_mono_right ?_
  refine bigSep_subset fun sm hsm => ?_
  obtain ⟨p, -, rfl⟩ := Finset.mem_map.mp hsm
  exact Finset.mem_erase.mpr ⟨fun h' => (by cases h'), Finset.mem_univ _⟩

end Cert.KernelIdeal.Talk

end
-- ==== Proof.Run.lean ====
/-
# The run of @main

From any memory with every counter at zero, every fair execution of @main on the eight devices terminates; every final state has
the arguments as launched, every device's result the sum over the ring, and every counter at zero.
-/
module

public import proofs.«01_k».proof.Proof.Launch

@[expose] public section

set_option maxRecDepth 16384

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg)

variable {F : FTy → Type} [FloatOps F]

local notation "𝕄" => MT nD τ sig Unit (Elt F) ℕ UU ℕ

variable (m : (ℓ : Loc nD τ sig) → Buf (Elt F) ℓ) (ρ : Dev nD → PrngReg)

/-- What rides beside the buffers before the call, and after it. -/
def E : Fin 2 → Dev nD → sProp (MT nD τ sig Unit (Elt F) ℕ UU ℕ)
  | ⟨0, _⟩, c => iprop((∃ r, prngReg c r) ∗ Tk m c ∗ ∃ W, owes (c : Thread nD τ) (owed c 0) W)
  | ⟨1, _⟩, c => iprop(semVal (barCell c) 0 ∗ ∃ W, owes (c : Thread nD τ) (0 : CellTallies nD τ sig Unit) W)

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-! ## Dealing at the launch -/

/-- What of the protocol a device is dealt, the launch credit apart. -/
def dealt (c : Dev nD) : sProp 𝕄 := iprop(barToks' c ∗ atPos ER (barCell c) 0 ∅ 0 ∗ hopToks c ∗ hopOpens c)
/-- What it has of its own. -/
def mine (c : Dev nD) : sProp 𝕄 :=
  iprop((cred (tallyAt (barCell c) () 2) ∗ hopCreds c) ∗ owes (c : Thread nD τ) (owed c 0) ∅ ∗ ∃ r, prngReg c r)

theorem pre_hop (c : Dev nD) (j : ℕ) :
    iprop(((dutyTok ER (sendCell 0 c j) 0 0 ∗ dutyTok ER (recvCell 0 (nb 0 c) j) 0 0) ∗ (dutyTok ER (sendCell 1 c j) 0 0 ∗ dutyTok ER (recvCell 1 (nb 1 c) j) 0 0))
      ∗ ((openTok ER (sendCell 0 c j) ∗ openTok ER (recvCell 0 c j)) ∗ (openTok ER (sendCell 1 c j) ∗ openTok ER (recvCell 1 c j)))
      ∗ (cred (tallyAt (recvCell 0 c j) () N) ∗ cred (tallyAt (recvCell 1 c j) () N))) ⊢ (iprop(pre1 0 c j ∗ pre1 1 c j) : sProp 𝕄) := by
  unfold pre1
  iintro ⟨⟨Ha, Hb⟩, ⟨Hc, Hd⟩, He, Hf⟩
  isplitl [Ha Hc He]
  · isplitl [Ha]; · iexact Ha
    isplitl [Hc] <;> iassumption
  isplitl [Hb]; · iexact Hb
  isplitl [Hd] <;> iassumption

theorem pre_hops (c : Dev nD) : iprop(hopToks c ∗ hopOpens c ∗ hopCreds c) ⊢ (bigSep (Finset.range 14) fun j => iprop(pre1 0 c j ∗ pre1 1 c j) : sProp 𝕄) := by
  unfold hopToks hopOpens hopCreds
  rw [← bigSep_sep', ← bigSep_sep']
  exact bigSep_mono fun j _ => pre_hop c j

theorem E_intro (κ : GSem nD τ sig → ℕ) (c : Dev nD) : iprop(records (xstg m) (wstg m) κ ∗ (dealt c ∗ mine c)) ⊢ (E m 0 c : sProp 𝕄) := by
  show _ ⊢ iprop((∃ r, prngReg c r) ∗ Tk m c ∗ ∃ W, owes (c : Thread nD τ) (owed c 0) W)
  unfold dealt mine Tk toCall bars barToks'
  iintro ⟨#HR, ⟨Hbt, Hat, Hht, Hho⟩, ⟨Hcb, Hhc⟩, HO, Hp⟩
  isplitl [Hp]; · iexact Hp
  isplitr [HO]
  · iexists κ
    isplitr; · iexact HR
    isplitl [Hbt Hcb Hat]
    · isplitl [Hbt]; · iexact Hbt
      isplitl [Hcb] <;> iassumption
    iapply (pre_hops c)
    isplitl [Hht]; · iexact Hht
    isplitl [Hho] <;> iassumption
  iexists ∅; iexact HO

theorem core (c : Dev nD) :
    iprop(unscopedSems0 c ∗ owes (c : Thread nD τ) (owed c 0) ∅ ∗ Pipeline.launchCred (fun c => owed c 0) c ∗ prngReg c (ρ c) ∗ G c)
      ⊢ (iprop(mine c ∗ (semVal (barCell c) 0 ∗ G c)) : sProp 𝕄) := by
  rw [unscopedSems0_eq]
  unfold mine
  iintro ⟨Hus, HO, Hcr, Hp, HG⟩
  ihave Hc := (creds (F := F) c) $$ Hcr
  isplitl [HO Hc Hp]
  · isplitl [Hc]; · iexact Hc
    isplitl [HO]; · iexact HO
    iexists (ρ c); iexact Hp
  isplitl [Hus] <;> iassumption

theorem cores :
    (bigSep Finset.univ fun c : Dev nD => iprop(unscopedSems0 c ∗ owes (c : Thread nD τ) (owed c 0) ∅ ∗ Pipeline.launchCred (fun c => owed c 0) c ∗ prngReg c (ρ c) ∗ G c))
      ⊢ (iprop((bigSep Finset.univ fun c : Dev nD => mine c) ∗ (bigSep Finset.univ fun c : Dev nD => semVal (barCell c) 0) ∗ bigSep Finset.univ fun c : Dev nD => G c) : sProp 𝕄) := by
  rw [← bigSep_sep', ← bigSep_sep']
  exact bigSep_mono fun c _ => core ρ c

theorem bars_v : bigSep Finset.univ (fun c : Dev nD => (semVal (barCell c) 0 : sProp 𝕄)) ⊢ bigSep barCells (fun g => (semVal g 0 : sProp 𝕄)) :=
  Entails.of_eq (by rw [barCells_eq, bigSep_map]; rfl)
theorem bars_at : bigSep barCells (fun g => (atPos ER g 0 ∅ 0 : sProp 𝕄)) ⊢ bigSep Finset.univ (fun c : Dev nD => (atPos ER (barCell c) 0 ∅ 0 : sProp 𝕄)) :=
  Entails.of_eq (by rw [barCells_eq, bigSep_map]; rfl)
theorem toks_dealt : bigSep talkToks (fun x => (dutyTok ER x.1 x.2.1 x.2.2 : sProp 𝕄))
    ⊢ iprop((bigSep Finset.univ fun c : Dev nD => barToks' c) ∗ bigSep Finset.univ fun c : Dev nD => hopToks c) :=
  Entails.of_eq (by rw [← barToks_eq, ← ownToks_eq]; unfold talkToks; rw [BI.bigSep_union disjoint_toks]; rfl)
theorem deal_all (κ : GSem nD τ sig → ℕ) :
    iprop(records (xstg m) (wstg m) κ ∗ ((bigSep Finset.univ fun c : Dev nD => barToks' c) ∗ (bigSep Finset.univ fun c : Dev nD => atPos ER (barCell c) 0 ∅ 0)
        ∗ (bigSep Finset.univ fun c : Dev nD => hopToks c) ∗ bigSep Finset.univ fun c : Dev nD => hopOpens c) ∗ bigSep Finset.univ fun c : Dev nD => mine c)
      ⊢ (bigSep Finset.univ (E m 0) : sProp 𝕄) := by
  rw [← bigSep_sep', ← bigSep_sep', ← bigSep_sep', ← bigSep_sep']
  exact   bigSep_with_persistent (R := records (xstg m) (wstg m) κ) (Φ := fun c : Dev nD => iprop(dealt c ∗ mine c)) fun c _ => E_intro m κ c
theorem G_whole : bigSep Finset.univ (G (F := F)) ⊢ BI.own (ER (launchOf barCells dmaCells talkToks)) :=
  Entails.of_eq (bigSep_onDev 0 (BI.own (ER (launchOf barCells dmaCells talkToks))))

theorem init :
    iprop((bigSep Finset.univ fun c : Dev nD => iprop(unscopedSems0 c ∗ owes (c : Thread nD τ) (owed c 0) ∅ ∗ Pipeline.launchCred (fun c => owed c 0) c ∗ prngReg c (ρ c) ∗ G c)) ∗ levAts L lv)
      ⊢ (|={Set.univ}=> bigSep Finset.univ (E m 0) : sProp 𝕄) := by
  iintro ⟨H, -⟩
  ihave H' := (cores ρ) $$ H
  icases H' with ⟨HB, Hv, HG⟩
  ihave Hu := (G_whole (F := F)) $$ HG
  imod (Rounds.fund_launch ER (talkRd (xstg m) (wstg m)) disjoint_cells (fun g _ h => h) talkToks) $$ [Hv Hu] with ⟨%κ, -, #Hinv, #Hr, Hat, Hopen, Htok⟩
  · isplitl [Hv]
    · iapply (bars_v (F := F)) $$ Hv
    · iexact Hu
  imodintro
  ihave Ht := (toks_dealt (F := F)) $$ Htok
  icases Ht with ⟨Hbt, Hht⟩
  iapply (deal_all m κ)
  isplitr
  · unfold records
    isplitr; · iexact Hinv
    iexact Hr
  isplitr [HB]
  · isplitl [Hbt]; · iexact Hbt
    isplitl [Hat]; · iapply (bars_at (F := F)) $$ Hat
    isplitl [Hht]; · iexact Hht
    iapply (Entails.of_eq (opens_eq (F := F))) $$ Hopen
  · iexact HB

/-! ## The run -/

theorem held_split (c : Dev nD) (V : Valuation τ sig (Elt F)) :
    (StableHlo.held (c : Thread nD τ) (Pipeline.ucRefs τ sig) V : sProp 𝕄)
      = iprop(StableHlo.held (c : Thread nD τ) (Pipeline.arrRefs (τ := τ) spec0) V ∗ StableHlo.held (c : Thread nD τ) others V) :=
  StableHlo.held_sub_split (c : Thread nD τ) arr_sub V

theorem pre0 (c : Dev nD) : iprop(StableHlo.held (c : Thread nD τ) (Pipeline.ucRefs τ sig) (V1 m c) ∗ E m 0 c) ⊢ ((reg0 m).pre c : sProp 𝕄) := by
  show _ ⊢ iprop(StableHlo.held (c : Thread nD τ) (Pipeline.arrRefs (τ := τ) spec0) (V1 m c) ∗ (∃ r, prngReg c r)
    ∗ (StableHlo.held (c : Thread nD τ) others (V1 m c) ∗ emp) ∗ Tk m c ∗ ∃ Wd, owes (c : Thread nD τ) (0 + owed c 0) Wd)
  rw [held_split, zero_add]
  show iprop(_ ∗ ((∃ r, prngReg c r) ∗ Tk m c ∗ ∃ W, owes (c : Thread nD τ) (owed c 0) W)) ⊢ _
  iintro ⟨⟨Ha, Hs⟩, Hp, HT, HO⟩
  isplitl [Ha]; · iexact Ha
  isplitl [Hp]; · iexact Hp
  isplitl [Hs]
  · isplitl [Hs]; · iexact Hs
    iempintro
  isplitl [HT] <;> iassumption

theorem post0 (c : Dev nD) : ((reg0 m).post c : sProp 𝕄) ⊢ iprop(StableHlo.held (c : Thread nD τ) (Pipeline.ucRefs τ sig) (V2 m (outs m) c) ∗ E m 1 c) := by
  show iprop(StableHlo.held (c : Thread nD τ) (Pipeline.arrRefs (τ := τ) spec0) (V2 m (outs m) c) ∗ (∃ r, prngReg c r)
    ∗ (StableHlo.held (c : Thread nD τ) others (V2 m (outs m) c) ∗ emp) ∗ semVal (barCell c) 0 ∗ ∃ Wd, owes (c : Thread nD τ) (0 : CellTallies nD τ sig Unit) Wd) ⊢ _
  rw [held_split]
  show _ ⊢ iprop(_ ∗ (semVal (barCell c) 0 ∗ ∃ W, owes (c : Thread nD τ) (0 : CellTallies nD τ sig Unit) W))
  iintro ⟨Ha, -, ⟨Hs, -⟩, Hb, HO⟩
  isplitl [Ha Hs]
  · isplitl [Ha] <;> iassumption
  isplitl [Hb] <;> iassumption

/-- What @main returns on every device. -/
def result : (⟨S1x2048x1024, .f32⟩ : BufTy).Contents (Elt F) := broadcastInDim S1x2048x1024 ![1, 2] bcast_S2048x1024_S1x2048x1024_1_2 (resW m)

theorem V3_result (c : Dev nD) : V3 m (outs m) c main_v12 = result m := by
  show StableHlo.after hostOps1 (V2 m (outs m) c) (Proc.devRef .tc main_v12) = _
  rw [StableHlo.after_cons, StableHlo.after_nil, StableHlo.unary_result]
  unfold result
  have h : V2 m (outs m) c (Proc.devRef .tc main_v11) = resW m := ?_
  · rw [h]
  show Function.update (V1 m c) (Proc.devRef .tc main_v11) (outs m 2 main_v11 c) (Proc.devRef .tc main_v11) = _
  rw [Function.update_self, outs_eq]

theorem unscoped_eq : ∀ sm : SemLoc sig, sm.isScoped .tc = false → sm = .reg barS := by decide

abbrev Tₙ (c : Dev nD) : sProp 𝕄 := iprop(StableHlo.held (c : Thread nD τ) (Pipeline.ucRefs τ sig) (V3 m (outs m) c) ∗ semVal (barCell c) 0)

def QY (c : Dev nD) (s : MemSt nD τ sig (Elt F)) : Prop :=
  (s.mem ((c.tc : Thread nD τ).loc main_v12) = result m
    ∧ s.mem ((c.tc : Thread nD τ).loc main_arg0) = m ((c.tc : Thread nD τ).loc main_arg0)
    ∧ s.mem ((c.tc : Thread nD τ).loc main_arg1) = m ((c.tc : Thread nD τ).loc main_arg1)) ∧ s.sem (barCell c) = 0

theorem fin (c : Dev nD) (s' : Phys nD τ sig (Elt F)) : iprop(Tₙ m c ∗ SI s') ⊢ (|={Set.univ}=> iprop(⌜QY m c s'.mem⌝ ∗ SI s') : sProp 𝕄) := by
  unfold Tₙ StableHlo.held
  iintro ⟨⟨Hh, Hb0⟩, HSI⟩
  icombine HSI Hb0 gives %hb
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  imodintro
  isplitr
  · ipureintro
    exact ⟨⟨(h (Proc.devRef .tc main_v12) (Finset.mem_filter.mpr ⟨StableHlo.devRef_mem_tcRefs main_v12, by decide⟩)).trans (V3_result m c),
      (h (Proc.devRef .tc main_arg0) (Finset.mem_filter.mpr ⟨StableHlo.devRef_mem_tcRefs main_arg0, by decide⟩)).trans (V3_main_arg0 m (outs m) c),
      (h (Proc.devRef .tc main_arg1) (Finset.mem_filter.mpr ⟨StableHlo.devRef_mem_tcRefs main_arg1, by decide⟩)).trans (V3_main_arg1 m (outs m) c)⟩, by simpa using hb⟩
  iexact HSI

theorem bufs_apart :
    (bigSep Finset.univ fun c : Dev nD => iprop(unscopedBufs c (fun b => m ((c.tc : Thread nD τ).loc b)) ∗ unscopedSems0 c
          ∗ owes (c.tc : Thread nD τ) (owed c 0) ∅ ∗ Pipeline.launchCred (fun c => owed c 0) c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (owed c 0) ∅ ∗ Pipeline.launchCred (fun c => owed c 0) c ∗ prngReg c (ρ c) ∗ G c)) : sProp 𝕄) := by
  rw [← bigSep_sep']
  exact bigSep_mono fun c _ => by rw [← Pipeline.unscopedBufs_held (Ix := Unit) (Name := ℕ) (U := UU) (Lvl := ℕ) c (V0 m c)]; exact BI.Entails.refl _

set_option backward.isDefEq.respectTransparency.types false in
/-- THE RUN of @main: it terminates on every fair execution, with the arguments as launched, the result as stated, every counter at zero. -/
theorem run_main : θ_run defs (onTc (τ := τ) (main (F := F))) ⟨m, fun _ => 0, ρ⟩ (fun r => (∀ c : Dev nD,
      r.2.mem ((c.tc : Thread nD τ).loc main_v12) = result m
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine Pipeline.θ_run_regions_kit_dev_sems (pcfgs (F := F)) adm (dats m) () cellOf_inj EP defs₀ 𝒱₀ L lv m ρ main
    (segs m (outs m) 𝒱₀ L lv (E m) () (dats m) (reg0 m))
    (fun c Q => by
      rewrite [main_chain c, Seg.run_eq_chain,
        show (segs m (outs m) 𝒱₀ L lv (E m) () (dats m) (reg0 m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) (fun c => owed c 0) L_of_ne G u₀
    (by
      unfold u₀ G
      iintro Hu
      ihave H := (ownU_pair _ _) $$ Hu
      icases H with ⟨HP, HX⟩
      imodintro
      isplitl [HP]; · iexact HP
      rw [bigSep_onDev]; iexact HX)
    (T₀ := fun c => iprop(StableHlo.held (c : Thread nD τ) (Pipeline.ucRefs τ sig) (V0 m c) ∗ E m 0 c))
    (Tₙ := Tₙ m)
    (hch := fun c => ⟨.rfl, pre0 m c, post0 m c, by
      show iprop(StableHlo.held (c : Thread nD τ) (Pipeline.ucRefs τ sig) (V3 m (outs m) c) ∗ (semVal (barCell c) 0 ∗ ∃ W, owes (c : Thread nD τ) (0 : CellTallies nD τ sig Unit) W))
        ⊢ iprop(Tₙ m c ∗ ∃ W, owes (c : Thread nD τ) (0 : CellTallies nD τ sig Unit) W)
      iintro ⟨Hh, Hb0, HO⟩
      isplitr [HO]
      · isplitl [Hh] <;> iassumption
      · iexact HO⟩)
    (hinit := ?_) (QY := QY m) (hfin := fin m)
    (hQ := fun s h hs => ⟨fun c => (h c).1, sem_eq_zero hs fun c sm hsm => by
        obtain rfl := unscoped_eq sm hsm
        exact (h c).2⟩)
  iintro ⟨H, Hla⟩
  ihave H' := (bufs_apart m ρ) $$ H
  icases H' with ⟨Hh, Hr⟩
  imod (init m ρ) $$ [Hr Hla] with HE
  · isplitl [Hr]; · iexact Hr
    iexact Hla
  imodintro
  rw [bigSep_sep']
  isplitl [Hh]; · iexact Hh
  iexact HE

end Cert.KernelIdeal.Talk

end
-- ==== Proof.Value.lean ====
/-
# What the ring's sum is

At the ideal values: the eight partial products that a half of a chunk gathers on its way round the ring add up to the product of
the whole arrays, whichever device it starts from.
-/
module

public import proofs.«01_k».proof.Proof.Run
public import Idealize.ShloMosaic.Lib.ValueIdx
public import Idealize.ShloMosaic.Lib.MatmulPlain
public import Idealize.ShloMosaic.Lib.StackMember
public import Idealize.ShloMosaic.Lib.DynamicIndex
public import Idealize.ShloMosaic.Lib.Layout
public import Idealize.ShloMosaic.Lib.LayoutAt

@[expose] public section

set_option maxRecDepth 16384

noncomputable section

namespace Cert.KernelIdeal.Talk

open Cert.KernelIdeal Cert.KernelIdeal.Gen

open Idealize.ShloMosaic hiding ix2
open Idealize.ShloMosaic.ValueIdx
open Idealize.ShloMosaic.TcCoe

/-! ## The ring -/

section Ring

variable (X : Dev nD → FVec Ideal S2048x1024 .f32) (Wt : Dev nD → FVec Ideal S1024x1024 .f32)

/-- A device's own product for a chunk, at a row of the chunk and a column. -/
theorem prodP_apply (c : Dev nD) (k : Fin 8) (r : Fin 256) (b : Fin 1024) (R : Fin 2048) (hR : R.val = 256 * k.val + r.val) :
    prodP (F := Ideal) X Wt c k (ix2 r b) = ∑ q : Fin 1024, X c (ix2 R q) * Wt c (ix2 q b) := by
  unfold prodP k0_pay1
  show FloatOps.matmul (DotDims.plain 256 1024 1024) none
    (shapeCast S256x1024 (rowsX (F := Ideal) (X c) k : FVec Ideal S256x1024 .f32) shapeCasts_S256x1024_S256x1024)
    (shapeCast S1024x1024 (allW (F := Ideal) (Wt c) : FVec Ideal S1024x1024 .f32) shapeCasts_S1024x1024_S1024x1024)
    (constant (F := Ideal) S256x1024 .f32 0x00000000#32) (ix2 r b) = _
  rw [Ideal.matmul_plain_apply, constant_apply, Ideal.ofBits_zero_f32, zero_add]
  refine Finset.sum_congr rfl fun q _ => ?_
  rw [shapeCast_id, shapeCast_id]
  have hx : rowsX (F := Ideal) (X c) k (ix2 r q) = X c (ix2 R q) := by
    unfold rowsX
    show X c _ = X c _
    congr 1
    funext a
    apply Fin.ext
    match a with
    | ⟨0, _⟩ => show 256 * k.val + 1 * r.val = R.val; omega
    | ⟨1, _⟩ => show 0 + 1 * q.val = q.val; omega
  have hw : allW (F := Ideal) (Wt c) (ix2 q b) = Wt c (ix2 q b) := by
    unfold allW
    show Wt c _ = Wt c _
    congr 1
    funext a
    apply Fin.ext
    match a with
    | ⟨0, _⟩ => show 0 + 1 * q.val = q.val; omega
    | ⟨1, _⟩ => show 0 + 1 * b.val = b.val; omega
  rw [hx, hw]

/-- Its half, at a row and a column of the half. -/
theorem halfP_apply (h : Fin 2) (c : Dev nD) (k : Fin 8) (r : Fin 256) (b : Fin 512) (R : Fin 2048) (hR : R.val = 256 * k.val + r.val)
    (B : Fin 1024) (hB : B.val = 512 * h.val + b.val) :
    halfP (F := Ideal) X Wt h c k (ix2 r b) = ∑ q : Fin 1024, X c (ix2 R q) * Wt c (ix2 q B) := by
  rw [← prodP_apply X Wt c k r B R hR]
  unfold halfP
  split
  · rename_i h0
    subst h0
    show prodP (F := Ideal) X Wt c k _ = prodP (F := Ideal) X Wt c k _
    congr 1
    funext a
    apply Fin.ext
    match a with
    | ⟨0, _⟩ => show 0 + r.val = r.val; omega
    | ⟨1, _⟩ => show 0 + b.val = B.val; simp at hB; omega
  · rename_i h0
    have h1 : h = 1 := by omega
    subst h1
    show prodP (F := Ideal) X Wt c k _ = prodP (F := Ideal) X Wt c k _
    congr 1
    funext a
    apply Fin.ext
    match a with
    | ⟨0, _⟩ => show 0 + r.val = r.val; omega
    | ⟨1, _⟩ => show 512 + b.val = B.val; simp at hB; omega

/-- The sum a device sends at hop `j`: the products, for the hop's chunk, of the `j` devices behind it and its own. -/
theorem acc_apply (h : Fin 2) (y : S256x512.Idx) : ∀ (j : ℕ) (hj : j < 8) (c : Dev nD),
    acc (F := Ideal) X Wt h c j y = ∑ i ∈ Finset.range (j + 1), halfP (F := Ideal) X Wt h ((fb h)^[i] c) (ck h c j) y
  | 0, _, c => by simp [acc]
  | j + 1, hj, c => by
    rw [acc, addf_apply, acc_apply h y j (by omega) (fb h c), ck_fb h c j (by omega), Finset.sum_range_succ' _ (j + 1), add_comm]
    rfl

theorem behind_bij : ∀ (h : Fin 2) (c : Dev nD), Function.Bijective fun i : Fin 8 => (fb h)^[i.val] c := by decide
theorem own_seven : ∀ (h : Fin 2) (k : Fin 8), ck h (own h k) 7 = k := by decide

/-- Half `h` of chunk `k` of the result: the sum over all devices. -/
theorem outV_apply (h : Fin 2) (k : Fin 8) (y : S256x512.Idx) : outV (F := Ideal) X Wt h k y = ∑ c : Dev nD, halfP (F := Ideal) X Wt h c k y := by
  unfold outV
  rw [acc_apply X Wt h y 7 (by decide), own_seven, Finset.sum_range]
  exact Fintype.sum_bijective _ (behind_bij h (own h k)) _ _ fun _ => rfl

/-- The result at a row and a column. -/
theorem outW_apply (R : Fin 2048) (B : Fin 1024) :
    (outW (F := Ideal) X Wt : FVec Ideal S2048x1024 .f32) (ix2 R B) = ∑ c : Dev nD, ∑ q : Fin 1024, X c (ix2 R q) * Wt c (ix2 q B) := by
  show outV (F := Ideal) X Wt (halfOf (ix2 R B)) (chunkOf (ix2 R B)) (inHalf (ix2 R B)) = _
  rw [outV_apply]
  refine Finset.sum_congr rfl fun c _ => ?_
  have e : inHalf (ix2 R B) = ix2 (⟨R.val % 256, Nat.mod_lt _ (by decide)⟩ : Fin 256) (⟨B.val % 512, Nat.mod_lt _ (by decide)⟩ : Fin 512) := by
    funext a
    match a with
    | ⟨0, _⟩ => rfl
    | ⟨1, _⟩ => rfl
  rw [e]
  refine halfP_apply X Wt _ c _ _ _ R ?_ B ?_
  · show R.val = 256 * (R.val / 256) + R.val % 256; omega
  · show B.val = 512 * (B.val / 512) + B.val % 512; omega

end Ring

/-! ## The operands -/

variable (m : (ℓ : Loc nD τ sig) → Buf (Elt Ideal) ℓ)

theorem xstg_apply (c : Dev nD) (R : Fin 2048) (q : Fin 1024) :
    (xstg m c : FVec Ideal S2048x1024 .f32) (ix2 R q) = (m ((c.tc : Thread nD τ).loc main_arg0) : FVec Ideal S2048x1024 .f32) (ix2 R q) := by
  have h : V1 m c main_arg0 = m ((c.tc : Thread nD τ).loc main_arg0) := (V1_of m c main_arg0 (by decide)).trans rfl
  rw [← h]
  unfold xstg
  show V1 m c main_arg0 _ = V1 m c main_arg0 _
  congr 1
  funext a
  apply Fin.ext
  match a with
  | ⟨0, _⟩ => show _ = R.val; simp; rfl
  | ⟨1, _⟩ => show _ = q.val; simp; rfl

/-- The host's cut of the weights, from its two starts. -/
abbrev sliceOp : HloOp τ sig (Elt Ideal) :=
  StableHlo.unaryIndexed main_arg1 ![main_v9, main_c_5] ⟨S_, .i32⟩ main_v10 ((fun x i => Host.dynamicSlice S1024x1024 x (fun k => (i k (Shape.Idx.first h_S_)).toInt) sliceFits_S8192x1024_S1024x1024) : (⟨S8192x1024, .f32⟩ : BufTy).Contents (Elt Ideal) → (Fin 2 → (⟨S_, .i32⟩ : BufTy).Contents (Elt Ideal)) → (⟨S1024x1024, .f32⟩ : BufTy).Contents (Elt Ideal))

theorem slice_result (V : Valuation τ sig (Elt Ideal)) (A : FVec Ideal S8192x1024 .f32) (hA : V (Proc.devRef .tc main_arg1) = A) (w0 w1 : IVec S_ 32)
    (h9 : V (Proc.devRef .tc main_v9) = w0) (h5 : V (Proc.devRef .tc main_c_5) = w1) :
    sliceOp.result V (Proc.devRef .tc main_v10)
      = Host.dynamicSlice S1024x1024 A ![(w0 (Shape.Idx.first h_S_)).toInt, (w1 (Shape.Idx.first h_S_)).toInt] sliceFits_S8192x1024_S1024x1024 := by
  subst hA h9 h5
  unfold sliceOp
  rw [StableHlo.unaryIndexed_result]
  refine congrArg (fun st => Host.dynamicSlice S1024x1024 (V (Proc.devRef .tc main_arg1)) st sliceFits_S8192x1024_S1024x1024) ?_
  funext k
  match k with
  | ⟨0, _⟩ => rfl
  | ⟨1, _⟩ => rfl

theorem hostOps0_cut (c : Dev nD) : StableHlo.after (hostOps0 c) (V0 m c) = sliceOp.result (StableHlo.after ((hostOps0 c).dropLast) (V0 m c)) := rfl

theorem start0 (c : Dev nD) : StableHlo.after ((hostOps0 c).dropLast) (V0 m c) (Proc.devRef .tc main_v9) = constantI S_ 32 (BitVec.ofNat 32 (1024 * c.val)) := by
  simp only [hostOps0, List.dropLast]
  after_results
  funext i
  exact (by decide : ∀ c : Dev nD, (select (cmpi .slt (muli (muli (id (Host.remui (Host.divui (constantI S_ 32 c.word) (constantI S_ 32 1#32)) (constantI S_ 32 8#32))) (constantI S_ 32 8#32)) (constantI S_ 32 128#32)) (constantI S_ 32 0#32))
    (addi (muli (muli (id (Host.remui (Host.divui (constantI S_ 32 c.word) (constantI S_ 32 1#32)) (constantI S_ 32 8#32))) (constantI S_ 32 8#32)) (constantI S_ 32 128#32)) (constantI S_ 32 8192#32))
    (muli (muli (id (Host.remui (Host.divui (constantI S_ 32 c.word) (constantI S_ 32 1#32)) (constantI S_ 32 8#32))) (constantI S_ 32 8#32)) (constantI S_ 32 128#32)) : IVec S_ 32) (Shape.Idx.first h_S_)
      = BitVec.ofNat 32 (1024 * c.val)) c

theorem start1 (c : Dev nD) : StableHlo.after ((hostOps0 c).dropLast) (V0 m c) (Proc.devRef .tc main_c_5) = constantI S_ 32 0#32 := by
  simp only [hostOps0, List.dropLast]
  after_results

theorem starts_from (c : Dev nD) : StableHlo.after ((hostOps0 c).dropLast) (V0 m c) (Proc.devRef .tc main_arg1) = m ((c.tc : Thread nD τ).loc main_arg1) := by
  simp only [hostOps0, List.dropLast]
  after_results

theorem start_word : ∀ c : Dev nD, (BitVec.ofNat 32 (1024 * c.val)).toInt = 1024 * (c.val : ℤ) := by decide

theorem weights (c : Dev nD) : V1 m c main_v10
    = Host.dynamicSlice S1024x1024 (m ((c.tc : Thread nD τ).loc main_arg1) : FVec Ideal S8192x1024 .f32) ![1024 * (c.val : ℤ), 0] sliceFits_S8192x1024_S1024x1024 := by
  show StableHlo.after (hostOps0 c) (V0 m c) (Proc.devRef .tc main_v10) = _
  rw [hostOps0_cut, slice_result _ _ (starts_from m c) _ _ (start0 m c) (start1 m c)]
  show Host.dynamicSlice (s := S8192x1024) S1024x1024 _ ![(BitVec.ofNat 32 (1024 * c.val)).toInt, (0#32).toInt] _ = _
  rw [start_word]
  rfl

/-- Device `c`'s weights are rows `1024 c …` of the whole. -/
theorem wstg_apply (c : Dev nD) (q : Fin 1024) (B : Fin 1024) (p : Fin 8192) (hp : p.val = 1024 * c.val + q.val) :
    (wstg m c : FVec Ideal S1024x1024 .f32) (ix2 q B) = (m ((c.tc : Thread nD τ).loc main_arg1) : FVec Ideal S8192x1024 .f32) (ix2 p B) := by
  have hc : c.val < 8 := c.isLt
  have hs : S8192x1024.Slices ![1024 * c.val, 0] S1024x1024 :=
    (by decide : ∀ c : Dev nD, S8192x1024.Slices ![1024 * c.val, 0] S1024x1024) c
  have e : (wstg m c : FVec Ideal S1024x1024 .f32) (ix2 q B) = (V1 m c main_v10 : FVec Ideal S1024x1024 .f32) (ix2 q B) := by
    unfold wstg
    show V1 m c main_v10 _ = V1 m c main_v10 _
    congr 1
    funext a
    apply Fin.ext
    match a with
    | ⟨0, _⟩ => show _ = q.val; simp; rfl
    | ⟨1, _⟩ => show _ = B.val; simp; rfl
  rw [e, weights, Host.dynamicSlice_eq_extractStridedSlice S1024x1024 _ _ ![1024 * c.val, 0] _ hs]
  · show (m ((c.tc : Thread nD τ).loc main_arg1) : FVec Ideal S8192x1024 .f32) _ = _
    congr 1
    funext a
    apply Fin.ext
    match a with
    | ⟨0, _⟩ => show 1024 * c.val + q.val = p.val; omega
    | ⟨1, _⟩ => show 0 + B.val = B.val; omega
  · intro a
    match a with
    | ⟨0, _⟩ => show 1024 * (c.val : ℤ) = ((1024 * c.val : ℕ) : ℤ); omega
    | ⟨1, _⟩ => rfl

/-! ## The result -/

/-- A sum over the 8192 contracted positions, device by device. -/
theorem sum_devices (f : Fin 8192 → EReal) : (∑ p : Fin 8192, f p) = ∑ c : Fin 8, ∑ q : Fin 1024, f (finProdFinEquiv (c, q)) := by
  rw [← Fintype.sum_prod_type' (fun (c : Fin 8) (q : Fin 1024) => f (finProdFinEquiv (c, q)))]
  exact (Equiv.sum_comp (finProdFinEquiv : Fin 8 × Fin 1024 ≃ Fin (8 * 1024)) f).symm

/-- The two operands of a device, as arrays of ideal values. -/
def xV (c : Dev nD) : FVec Ideal S2048x1024 .f32 := xstg m c
def wV (c : Dev nD) : FVec Ideal S1024x1024 .f32 := wstg m c

/-- The sum over the ring is the product of the whole arrays. -/
theorem resW_apply (A : FVec Ideal ⟨2, ![2048, 8192]⟩ .f32) (W : FVec Ideal ⟨2, ![8192, 1024]⟩ .f32)
    (hA : ∀ c : Dev nD, m ((c.tc : Thread nD τ).loc main_arg0) = Layout.block ⟨2, ![2048, 1024]⟩ ⟨2, ![2048, 8192]⟩ 1 8 c A)
    (hW : ∀ c : Dev nD, m ((c.tc : Thread nD τ).loc main_arg1) = W) (R : Fin 2048) (B : Fin 1024) :
    (resW m : FVec Ideal S2048x1024 .f32) (ix2 R B) = ∑ p : Fin 8192, A (ix2 R p) * W (ix2 p B) := by
  suffices h : (∑ c : Dev nD, ∑ q : Fin 1024, xV m c (ix2 R q) * wV m c (ix2 q B))
      = ∑ p : Fin 8192, A (ix2 R p) * W (ix2 p B) from (outW_apply (xstg m) (wstg m) R B).trans h
  rw [sum_devices]
  refine Finset.sum_congr rfl fun c _ => Finset.sum_congr rfl fun q _ => ?_
  have hp : (finProdFinEquiv (c, q) : Fin 8192).val = 1024 * c.val + q.val := (finProdFinEquiv_apply_val (c, q)).trans (Nat.add_comm _ _)
  rw [show wV m c (ix2 q B) = _ from wstg_apply m c q B _ hp, show xV m c (ix2 R q) = _ from xstg_apply m c R q, hA c, hW c]
  congr 1
  show A _ = A _
  congr 1
  funext a
  apply Fin.ext
  match a with
  | ⟨0, _⟩ => rfl
  | ⟨1, _⟩ => show c.val * 1024 + q.val = (finProdFinEquiv (c, q) : Fin 8192).val; omega

/-- What @main returns is the reference's result. -/
theorem result_eq (A : FVec Ideal ⟨2, ![2048, 8192]⟩ .f32) (W : FVec Ideal ⟨2, ![8192, 1024]⟩ .f32)
    (hA : ∀ c : Dev nD, m ((c.tc : Thread nD τ).loc main_arg0) = Layout.block ⟨2, ![2048, 1024]⟩ ⟨2, ![2048, 8192]⟩ 1 8 c A)
    (hW : ∀ c : Dev nD, m ((c.tc : Thread nD τ).loc main_arg1) = W)
    (P : FVec Ideal S2048x1024 .f32) (hP : P = Host.dotGeneral (DotDims.plain 2048 8192 1024) none A W) (hs : S2048x1024.ShapeCasts S1x2048x1024) :
    (result m : FVec Ideal S1x2048x1024 .f32) = shapeCast S1x2048x1024 P hs := by
  subst hP
  funext i
  have h1 : (i 1).val < 2048 := (i 1).isLt
  have h2 : (i 2).val < 1024 := (i 2).isLt
  refine Eq.trans ?_ (shapeCast_addUnit_apply ![2048, 1024] _ hs i).symm
  have ei : (fun a => i a.succ : S2048x1024.Idx) = ix2 (⟨(i 1).val, h1⟩ : Fin 2048) (⟨(i 2).val, h2⟩ : Fin 1024) := by
    funext a
    match a with
    | ⟨0, _⟩ => rfl
    | ⟨1, _⟩ => rfl
  refine Eq.trans ?_ (congrArg (Host.dotGeneral (DotDims.plain 2048 8192 1024) none A W) ei).symm
  rw [StackMember.dotGeneral_plain_apply, ← resW_apply m A W hA hW]
  unfold result
  refine broadcastInDim_apply ![1, 2] bcast_S2048x1024_S1x2048x1024_1_2 (resW m : FVec Ideal S2048x1024 .f32) i _ fun a => ?_
  match a with
  | ⟨0, _⟩ => rfl
  | ⟨1, _⟩ => rfl

end Cert.KernelIdeal.Talk

end
-- ==== Proof.AttnFinite.lean ====
/- The precondition of the attention's claim, read entry by entry: the inputs it names are real numbers. -/
module

public import proofs.«01_k».proof.Proof.Gen.Pre_finite_inputs_AttentionIdeal
public import Idealize.ShloMosaic.Lib.ReduceAll
public import Idealize.ShloMosaic.Lib.Pointwise

@[expose] public section

set_option maxRecDepth 16384

noncomputable section

namespace Cert.Pre_finite_inputs_AttentionIdeal.Attn

open Cert.Pre_finite_inputs_AttentionIdeal Cert.Pre_finite_inputs_AttentionIdeal.Gen Idealize.ShloMosaic

/-- The pattern of plus infinity. -/
theorem pos_inf : Ideal.ofBits .f32 0x7F800000#32 = (⊤ : EReal) := by
  simp [Ideal.ofBits, Ideal.ieee]

/-- A number whose absolute value is below infinity is real. -/
theorem real_of_lt (a : EReal) (h : FloatOps.cmpf (F := Ideal) (φ := .f32) .olt (FloatOps.absf (F := Ideal) (φ := .f32) a) (⊤ : EReal) = 1#1) :
    ∃ r : ℝ, a = r := by
  induction a with
  | bot =>
    exfalso
    revert h
    show BitVec.ofBool (decide (max (⊥ : EReal) (-⊥) < ⊤)) = 1#1 → False
    simp
  | coe r => exact ⟨r, rfl⟩
  | top =>
    exfalso
    revert h
    show BitVec.ofBool (decide (max (⊤ : EReal) (-⊤) < ⊤)) = 1#1 → False
    simp

theorem and_one : ∀ a b : BitVec 1, IntOp.andi a b = 1#1 → a = 1#1 ∧ b = 1#1 := by decide

variable (x : FVec Ideal S1x2048x1024 .f32) (wq : FVec Ideal S1024x1024 .f32) (k v : FVec Ideal S1x2048x8x128 .f32)

/-- The three tests. -/
theorem tests (h : fn (F := Ideal) x wq k v = fun _ => 1#1) :
    (Host.reduce IntOp.andi (cmpf .olt (Host.absf x) (broadcastInDim S1x2048x1024 ![] bcast_S_S1x2048x1024 (constant S_ .f32 0x7F800000#32)))
        (constantI S_ 1 1#1) reducesTo_S1x2048x1024_S_d0_1_2 h_S_ (ix0 : S_.Idx) = 1#1)
    ∧ (Host.reduce IntOp.andi (cmpf .olt (Host.absf wq) (broadcastInDim S1024x1024 ![] bcast_S_S1024x1024 (constant S_ .f32 0x7F800000#32)))
        (constantI S_ 1 1#1) reducesTo_S1024x1024_S_d0_1 h_S_ (ix0 : S_.Idx) = 1#1)
    ∧ (Host.reduce IntOp.andi (cmpf .olt (Host.absf k) (broadcastInDim S1x2048x8x128 ![] bcast_S_S1x2048x8x128 (constant S_ .f32 0x7F800000#32)))
        (constantI S_ 1 1#1) reducesTo_S1x2048x8x128_S_d0_1_2_3 h_S_ (ix0 : S_.Idx) = 1#1) := by
  obtain ⟨h1, h2⟩ := and_one _ _ (congrFun h (ix0 : S_.Idx))
  obtain ⟨h3, h4⟩ := and_one _ _ h1
  exact ⟨h3, h4, h2⟩

instance : Subsingleton S_.Idx := ⟨fun a b => funext fun i => i.elim0⟩

theorem real_x (h : fn (F := Ideal) x wq k v = fun _ => 1#1) (i : S1x2048x1024.Idx) : ∃ r : ℝ, x i = r := by
  have e := Host.reduce_andi_all _ _ _ _ _ (tests x wq k v h).1 i
  exact real_of_lt _ (by rw [← pos_inf]; exact e)

theorem real_wq (h : fn (F := Ideal) x wq k v = fun _ => 1#1) (i : S1024x1024.Idx) : ∃ r : ℝ, wq i = r := by
  have e := Host.reduce_andi_all _ _ _ _ _ (tests x wq k v h).2.1 i
  exact real_of_lt _ (by rw [← pos_inf]; exact e)

theorem real_k (h : fn (F := Ideal) x wq k v = fun _ => 1#1) (i : S1x2048x8x128.Idx) : ∃ r : ℝ, k i = r := by
  have e := Host.reduce_andi_all _ _ _ _ _ (tests x wq k v h).2.2 i
  exact real_of_lt _ (by rw [← pos_inf]; exact e)

end Cert.Pre_finite_inputs_AttentionIdeal.Attn

end
-- ==== Proof.AttnRef.lean ====
/- What the attention's reference computes, entry by entry. -/
module

public import proofs.«01_k».proof.Proof.Gen.AttentionReferenceIdeal.Run
public import Idealize.ShloMosaic.Lib.Pointwise

@[expose] public section

set_option maxRecDepth 16384

noncomputable section

namespace Cert.AttentionReferenceIdeal.Attn

open Cert.AttentionReferenceIdeal Cert.AttentionReferenceIdeal.Gen Idealize.ShloMosaic Idealize.ShloMosaic.TcCoe Idealize.SL.Sem

/-- The block of 64 rows that a row lies in, as the reference's floor division has it. -/
def blockNo : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))

/-- The divisor of the class, guarded against zero. -/
def four : IVec S_ 32 :=
  select (cmpi .eq (id (constantI S_ 32 4#32)) (constantI S_ 32 0#32)) (constantI S_ 32 1#32) (id (constantI S_ 32 4#32))

/-- A key's class: its block's number modulo 4. -/
def keyClass : IVec S1x2048 32 :=
  select (andi (cmpi .ne (cmpi .slt (Host.remsi (broadcastInDim S1x2048 ![1] bcast_S2048_S1x2048_1 blockNo) (broadcastInDim S1x2048 ![] bcast_S_S1x2048 four)) (broadcastInDim S1x2048 ![] bcast_S_S1x2048 (constantI S_ 32 0#32))) (broadcastInDim S1x2048 ![] bcast_S_S1x2048 (cmpi .slt four (constantI S_ 32 0#32)))) (cmpi .ne (Host.remsi (broadcastInDim S1x2048 ![1] bcast_S2048_S1x2048_1 blockNo) (broadcastInDim S1x2048 ![] bcast_S_S1x2048 four)) (broadcastInDim S1x2048 ![] bcast_S_S1x2048 (constantI S_ 32 0#32)))) (addi (Host.remsi (broadcastInDim S1x2048 ![1] bcast_S2048_S1x2048_1 blockNo) (broadcastInDim S1x2048 ![] bcast_S_S1x2048 four)) (broadcastInDim S1x2048 ![] bcast_S_S1x2048 four)) (Host.remsi (broadcastInDim S1x2048 ![1] bcast_S2048_S1x2048_1 blockNo) (broadcastInDim S1x2048 ![] bcast_S_S1x2048 four))

/-- A query's class. -/
def rowClass : IVec S2048x1 32 :=
  select (andi (cmpi .ne (cmpi .slt (Host.remsi (broadcastInDim S2048x1 ![0] bcast_S2048_S2048x1_0 blockNo) (broadcastInDim S2048x1 ![] bcast_S_S2048x1 four)) (broadcastInDim S2048x1 ![] bcast_S_S2048x1 (constantI S_ 32 0#32))) (broadcastInDim S2048x1 ![] bcast_S_S2048x1 (cmpi .slt four (constantI S_ 32 0#32)))) (cmpi .ne (Host.remsi (broadcastInDim S2048x1 ![0] bcast_S2048_S2048x1_0 blockNo) (broadcastInDim S2048x1 ![] bcast_S_S2048x1 four)) (broadcastInDim S2048x1 ![] bcast_S_S2048x1 (constantI S_ 32 0#32)))) (addi (Host.remsi (broadcastInDim S2048x1 ![0] bcast_S2048_S2048x1_0 blockNo) (broadcastInDim S2048x1 ![] bcast_S_S2048x1 four)) (broadcastInDim S2048x1 ![] bcast_S_S2048x1 four)) (Host.remsi (broadcastInDim S2048x1 ![0] bcast_S2048_S2048x1_0 blockNo) (broadcastInDim S2048x1 ![] bcast_S_S2048x1 four))

/-- The mask. -/
def maskV : IVec S2048x2048 1 :=
  ori (cmpi .eq (broadcastInDim S2048x2048 ![0, 1] bcast_S2048x1_S2048x2048_0_1 (broadcastInDim S2048x1 ![0] bcast_S2048_S2048x1_0 blockNo)) (broadcastInDim S2048x2048 ![0, 1] bcast_S1x2048_S2048x2048_0_1 (broadcastInDim S1x2048 ![1] bcast_S2048_S1x2048_1 blockNo))) (cmpi .eq (broadcastInDim S2048x2048 ![0, 1] bcast_S1x2048_S2048x2048_0_1 keyClass) (broadcastInDim S2048x2048 ![0, 1] bcast_S2048x1_S2048x2048_0_1 rowClass))

/-- Whether a row has a key at all. -/
def rowKeep : IVec S2048 1 :=
  Host.reduce IntOp.ori maskV (constantI S_ 1 0#1) reducesTo_S2048x2048_S2048_d1 h_S_

/-- The scaled scores. -/
def scoreV (x : FVec Ideal S1x2048x1024 .f32) (wq : FVec Ideal S1024x8192 .f32) (k : FVec Ideal S1x2048x64x128 .f32) : FVec Ideal S1x64x2048x2048 .f32 :=
  mulf (Host.dotGeneral dot_S1x2048x64x128_S1x2048x64x128_S1x64x2048x2048_3_3_1_1_02_02 none (shapeCast S1x2048x64x128 (Host.dotGeneral dot_S1x2048x1024_S1024x8192_S1x2048x8192_2_0_01_1_n_n none x wq) shapeCasts_S1x2048x8192_S1x2048x64x128) k) (broadcastInDim S1x64x2048x2048 ![] bcast_S_S1x64x2048x2048 (constant S_ .f32 0x3DB504F3#32))

/-- The scores under the mask. -/
def maskedV (x : FVec Ideal S1x2048x1024 .f32) (wq : FVec Ideal S1024x8192 .f32) (k : FVec Ideal S1x2048x64x128 .f32) : FVec Ideal S1x64x2048x2048 .f32 :=
  select (broadcastInDim S1x64x2048x2048 ![0, 1, 2, 3] bcast_S1x1x2048x2048_S1x64x2048x2048_0_1_2_3 (broadcastInDim S1x1x2048x2048 ![2, 3] bcast_S2048x2048_S1x1x2048x2048_2_3 maskV)) (scoreV x wq k) (broadcastInDim S1x64x2048x2048 ![] bcast_S_S1x64x2048x2048 (id (constant S_ .f32 0xFF800000#32)))

/-- Each row's greatest score. -/
def maxV (x : FVec Ideal S1x2048x1024 .f32) (wq : FVec Ideal S1024x8192 .f32) (k : FVec Ideal S1x2048x64x128 .f32) : FVec Ideal S1x64x2048 .f32 :=
  Host.reduce FloatOps.maximumf (maskedV x wq k) (constant S_ .f32 0xFF800000#32) reducesTo_S1x64x2048x2048_S1x64x2048_d3 h_S_

/-- The exponentials. -/
def expV (x : FVec Ideal S1x2048x1024 .f32) (wq : FVec Ideal S1024x8192 .f32) (k : FVec Ideal S1x2048x64x128 .f32) : FVec Ideal S1x64x2048x2048 .f32 :=
  Host.exp (subf (maskedV x wq k) (broadcastInDim S1x64x2048x2048 ![0, 1, 2, 3] bcast_S1x64x2048x1_S1x64x2048x2048_0_1_2_3 (broadcastInDim S1x64x2048x1 ![0, 1, 2] bcast_S1x64x2048_S1x64x2048x1_0_1_2 (maxV x wq k))))

/-- Their sums. -/
def sumV (x : FVec Ideal S1x2048x1024 .f32) (wq : FVec Ideal S1024x8192 .f32) (k : FVec Ideal S1x2048x64x128 .f32) : FVec Ideal S1x64x2048 .f32 :=
  Host.reduceAdd (expV x wq k) (constant S_ .f32 0x00000000#32) reducesTo_S1x64x2048x2048_S1x64x2048_d3 h_S_

/-- The weights from the exponentials and their sums, where a row has a key. -/
def weightOf (keep : IVec S2048 1) (e : FVec Ideal S1x64x2048x2048 .f32) (z : FVec Ideal S1x64x2048 .f32) : FVec Ideal S1x64x2048x2048 .f32 :=
  select (broadcastInDim S1x64x2048x2048 ![0, 1, 2, 3] bcast_S1x1x2048x1_S1x64x2048x2048_0_1_2_3 (broadcastInDim S1x1x2048x1 ![2] bcast_S2048_S1x1x2048x1_2 keep)) (Host.divf e (broadcastInDim S1x64x2048x2048 ![0, 1, 2, 3] bcast_S1x64x2048x1_S1x64x2048x2048_0_1_2_3 (select (broadcastInDim S1x64x2048x1 ![0, 1, 2, 3] bcast_S1x1x2048x1_S1x64x2048x1_0_1_2_3 (broadcastInDim S1x1x2048x1 ![2] bcast_S2048_S1x1x2048x1_2 keep)) (broadcastInDim S1x64x2048x1 ![0, 1, 2] bcast_S1x64x2048_S1x64x2048x1_0_1_2 z) (broadcastInDim S1x64x2048x1 ![] bcast_S_S1x64x2048x1 (id (constant S_ .f32 0x3F800000#32)))))) (broadcastInDim S1x64x2048x2048 ![] bcast_S_S1x64x2048x2048 (id (constant S_ .f32 0x00000000#32)))

/-- The weights. -/
def weightV (x : FVec Ideal S1x2048x1024 .f32) (wq : FVec Ideal S1024x8192 .f32) (k : FVec Ideal S1x2048x64x128 .f32) : FVec Ideal S1x64x2048x2048 .f32 :=
  weightOf rowKeep (expV x wq k) (sumV x wq k)

/-- The result. -/
def outV (x : FVec Ideal S1x2048x1024 .f32) (wq : FVec Ideal S1024x8192 .f32) (k v : FVec Ideal S1x2048x64x128 .f32) : FVec Ideal S8x4x64x8192 .f32 :=
  shapeCast S8x4x64x8192 (transpose S1x2048x64x128 [0, 3, 1, 2] (Host.dotGeneral dot_S1x2048x64x128_S1x64x2048x2048_S1x64x128x2048_1_3_3_2_02_01 none v (weightV x wq k)) transposes_S1x64x128x2048_S1x2048x64x128_0_3_1_2) shapeCasts_S1x2048x64x128_S8x4x64x8192

/-- The run's term is the staged one. -/
theorem res_eq (m : (ℓ : Loc nD τ sig) → Buf (Elt Ideal) ℓ) (c : Dev nD) :
    Value.res_out0 m c = outV (m ((c.tc : Thread nD τ).loc main_arg0)) (m ((c.tc : Thread nD τ).loc main_arg1))
      (m ((c.tc : Thread nD τ).loc main_arg2)) (m ((c.tc : Thread nD τ).loc main_arg3)) := rfl

/-! ## The mask -/

theorem blockNo_at (i : Fin 2048) : blockNo (ix1 i) = BitVec.ofNat 32 (i.val / 64) := by
  revert i
  pointwise [blockNo]
  decide +kernel

theorem keyClass_at (j : Fin 2048) : keyClass (ix2 0 j) = BitVec.ofNat 32 (j.val / 64 % 4) := by
  pointwise [keyClass, four, blockNo_at]
  revert j
  decide +kernel

theorem rowClass_at (i : Fin 2048) : rowClass (ix2 i 0) = BitVec.ofNat 32 (i.val / 64 % 4) := by
  pointwise [rowClass, four, blockNo_at]
  revert i
  decide +kernel

end Cert.AttentionReferenceIdeal.Attn

end
-- ==== Proof.AttnMask.lean ====
/- The mask of the attention's reference: a query sees the keys of its own class. -/
module

public import proofs.«01_k».proof.Proof.AttnRef
public import Idealize.ShloMosaic.Lib.Pointwise

@[expose] public section

set_option maxRecDepth 16384

noncomputable section

namespace Cert.AttentionReferenceIdeal.Attn

open Cert.AttentionReferenceIdeal Cert.AttentionReferenceIdeal.Gen Idealize.ShloMosaic Idealize.ShloMosaic.TcCoe Idealize.SL.Sem

/-- Two blocks are equal or of one class just when they are of one class. -/
theorem same_class : ∀ a b : Fin 32,
    IntOp.ori (IntOp.cmpi CmpIPredicate.eq (BitVec.ofNat 32 a.val) (BitVec.ofNat 32 b.val))
        (IntOp.cmpi CmpIPredicate.eq (BitVec.ofNat 32 (b.val % 4)) (BitVec.ofNat 32 (a.val % 4))) = 1#1
      ↔ b.val % 4 = a.val % 4 := by
  decide +kernel

theorem mask_at (i j : Fin 2048) : maskV (ix2 i j) = 1#1 ↔ j.val / 64 % 4 = i.val / 64 % 4 := by
  pointwise [maskV, blockNo_at, keyClass_at, rowClass_at]
  exact same_class ⟨i.val / 64, by omega⟩ ⟨j.val / 64, by omega⟩

theorem one_or : ∀ x : BitVec 1, IntOp.ori 1#1 x = 1#1 := by decide

/-- Every row has a key: its own. -/
theorem rowKeep_at (i : Fin 2048) : rowKeep (ix1 i) = 1#1 := by
  pointwise [rowKeep]
  rw [← Finset.insert_erase (Finset.mem_univ i), Finset.fold_insert (Finset.notMem_erase _ _), (mask_at i i).2 rfl]
  exact one_or _

end Cert.AttentionReferenceIdeal.Attn

end
-- ==== Proof.AttnEntries.lean ====
/- The weights of the attention's reference, entry by entry. -/
module

public import proofs.«01_k».proof.Proof.AttnMask
public import Idealize.ShloMosaic.Lib.Pointwise

@[expose] public section

set_option maxRecDepth 16384

noncomputable section

namespace Cert.AttentionReferenceIdeal.Attn

open Cert.AttentionReferenceIdeal Cert.AttentionReferenceIdeal.Gen Idealize.ShloMosaic Idealize.ShloMosaic.TcCoe Idealize.SL.Sem

/-- The pattern of minus infinity. -/
theorem neg_inf : Ideal.ofBits .f32 0xFF800000#32 = (⊥ : EReal) := by
  simp [Ideal.ofBits, Ideal.ieee]

/-- A query: a row's product with a head's column of the weights. -/
def qAt (x : FVec Ideal S1x2048x1024 .f32) (wq : FVec Ideal S1024x8192 .f32) (i : Fin 2048) (h : Fin 64) (d : Fin 128) : EReal :=
  ∑ l : Fin 1024, x (ix3 0 i l) * wq (ix2 l ⟨h.val * 128 + d.val, by omega⟩)

/-- A score. -/
def sAt (x : FVec Ideal S1x2048x1024 .f32) (wq : FVec Ideal S1024x8192 .f32) (k : FVec Ideal S1x2048x64x128 .f32)
    (h : Fin 64) (i j : Fin 2048) : EReal :=
  (∑ d : Fin 128, qAt x wq i h d * k (ix4 0 j h d)) * Ideal.ofBits .f32 0x3DB504F3#32

/-- A score under the mask. -/
def mAt (x : FVec Ideal S1x2048x1024 .f32) (wq : FVec Ideal S1024x8192 .f32) (k : FVec Ideal S1x2048x64x128 .f32)
    (h : Fin 64) (i j : Fin 2048) : EReal :=
  if j.val / 64 % 4 = i.val / 64 % 4 then sAt x wq k h i j else ⊥

variable (x : FVec Ideal S1x2048x1024 .f32) (wq : FVec Ideal S1024x8192 .f32) (k : FVec Ideal S1x2048x64x128 .f32)

theorem score_at (h : Fin 64) (i j : Fin 2048) : scoreV x wq k (ix4 0 h i j) = sAt x wq k h i j := by
  pointwise [scoreV, sAt, qAt]

theorem masked_at (h : Fin 64) (i j : Fin 2048) : maskedV x wq k (ix4 0 h i j) = mAt x wq k h i j := by
  pointwise [maskedV, score_at]
  unfold mAt
  by_cases hc : j.val / 64 % 4 = i.val / 64 % 4
  · rw [if_pos hc, (mask_at i j).2 hc]; rfl
  · have h0 : maskV (ix2 i j) = 0#1 := by
      have h1 : ∀ b : BitVec 1, b ≠ 1#1 → b = 0#1 := by decide
      exact h1 _ fun e => hc ((mask_at i j).1 e)
    rw [if_neg hc, h0]
    exact neg_inf

theorem max_at (h : Fin 64) (i : Fin 2048) : maxV x wq k (ix3 0 h i) = Finset.univ.sup fun j => mAt x wq k h i j := by
  pointwise [maxV, masked_at]
  rw [neg_inf]
  rfl

theorem exp_at (h : Fin 64) (i j : Fin 2048) : expV x wq k (ix4 0 h i j)
    = Ideal.exp (mAt x wq k h i j - Finset.univ.sup fun j => mAt x wq k h i j) := by
  pointwise [expV, masked_at, max_at]

theorem sum_at (h : Fin 64) (i : Fin 2048) : sumV x wq k (ix3 0 h i)
    = ∑ j, Ideal.exp (mAt x wq k h i j - Finset.univ.sup fun j => mAt x wq k h i j) := by
  pointwise [sumV, exp_at]

/-- Where a row has a key its weights are the exponentials over their sum. -/
theorem weightOf_at (keep : IVec S2048 1) (e : FVec Ideal S1x64x2048x2048 .f32) (z : FVec Ideal S1x64x2048 .f32)
    (h : Fin 64) (i j : Fin 2048) (hk : keep (ix1 i) = 1#1) :
    weightOf keep e z (ix4 0 h i j) = Ideal.div (e (ix4 0 h i j)) (z (ix3 0 h i)) := by
  pointwise [weightOf, hk]

theorem weight_at (h : Fin 64) (i j : Fin 2048) : weightV x wq k (ix4 0 h i j)
    = Ideal.div (expV x wq k (ix4 0 h i j)) (sumV x wq k (ix3 0 h i)) :=
  weightOf_at rowKeep _ _ h i j (rowKeep_at i)

theorem out_at (v : FVec Ideal S1x2048x64x128 .f32) (b : Fin 8) (g : Fin 4) (r : Fin 64) (h : Fin 64) (d : Fin 128) :
    outV x wq k v (ix4 b g r ⟨h.val * 128 + d.val, by omega⟩)
      = ∑ j : Fin 2048, v (ix4 0 j h d) * weightV x wq k (ix4 0 h ⟨b.val * 256 + g.val * 64 + r.val, by omega⟩ j) := by
  pointwise [outV]

end Cert.AttentionReferenceIdeal.Attn

end
-- ==== Proof.AttnPay.lean ====
/- What the attention's body stores, entry by entry, from the arrays its windows stage. -/
module

public import proofs.«01_k».proof.Proof.Gen.AttentionIdeal.Value
public import proofs.«01_k».proof.Proof.AttnEntries
public import Idealize.ShloMosaic.Lib.Pipeline.ValueKit
public import Idealize.ShloMosaic.Lib.Claim
public import Idealize.ShloMosaic.Lib.Pointwise

@[expose] public section

set_option maxRecDepth 16384

noncomputable section

namespace Cert.AttentionIdeal.Attn

open Cert.AttentionIdeal Cert.AttentionIdeal.Gen Idealize.ShloMosaic Idealize.ShloMosaic.TcCoe Idealize.SL.Sem
open Idealize.ShloMosaic.Pipeline (Dat)

/-! ## The body, over the windows' blocks -/

/-- A block's score. -/
def sB (a b : FVec Ideal S1x8x512x128 .f32) (h : Fin 8) (q k : Fin 512) : EReal :=
  (∑ d : Fin 128, a (ix4 0 h q d) * b (ix4 0 h k d)) * Ideal.ofBits .f32 0x3DB504F3#32

theorem fold_max (f : Fin 512 → EReal) : Finset.fold max ⊥ f Finset.univ = Finset.univ.sup f := rfl

/-- The softmax-weighted sum over a group's keys. -/
def groupSoftmax (s v : Fin 512 → EReal) : EReal :=
  ∑ k, Ideal.div (Ideal.exp (s k - Finset.univ.sup fun k => s k)) (∑ k, Ideal.exp (s k - Finset.univ.sup fun k => s k)) * v k

/-- A group's row of a block. -/
def rowIn (b : Fin 8) (r : Fin 64) : Fin 512 := ⟨b.val * 64 + r.val, by omega⟩

/-- A head's column. -/
def colOf (h : Fin 8) (d : Fin 128) : Fin 1024 := ⟨h.val * 128 + d.val, by omega⟩

theorem pay_at (a b v : FVec Ideal S1x8x512x128 .f32) (n : Fin 8) (r : Fin 64) (h : Fin 8) (d : Fin 128) :
    k0_pay1 (F := Ideal) a b v (ix4 n 0 r (colOf h d))
      = groupSoftmax (fun k => sB a b h (rowIn n r) k) (fun k => v (ix4 0 h k d)) := by
  have hh : (h.val * 128 + d.val) / 128 = h.val := by omega
  have hd : (h.val * 128 + d.val) % 128 = d.val := by omega
  pointwise [k0_pay1, sB, colOf, rowIn, groupSoftmax, hh, hd]
  rw [Cert.AttentionReferenceIdeal.Attn.neg_inf]
  simp only [fold_max]

/-! ## The arrays the windows stage -/

variable (m : (ℓ : Loc nD τ sig) → Buf (Elt Ideal) ℓ)

/-- The row of the whole array that a group's row is. -/
def row (g : Fin 4) (k : Fin 512) : Fin 2048 := ⟨k.val / 64 * 256 + g.val * 64 + k.val % 64, by omega⟩

theorem vals_at (c : Dev nD) (g : Fin 4) (h : Fin 8) (k : Fin 512) (d : Fin 128) :
    (V m c main_v14 : FVec Ideal S4x8x512x128 .f32) (ix4 g h k d)
      = (m ((c : Thread nD τ).loc main_arg3) : FVec Ideal S1x2048x8x128 .f32) (ix4 0 (row g k) h d) := by
  entry_read
  pointwise
  rfl

theorem keys_at (c : Dev nD) (g : Fin 4) (h : Fin 8) (k : Fin 512) (d : Fin 128) :
    (V m c main_v10 : FVec Ideal S4x8x512x128 .f32) (ix4 g h k d)
      = (m ((c : Thread nD τ).loc main_arg2) : FVec Ideal S1x2048x8x128 .f32) (ix4 0 (row g k) h d) := by
  entry_read
  pointwise
  rfl

/-- A device's query: a row's product with a column of its weights. -/
def qD (x : FVec Ideal S1x2048x1024 .f32) (wq : FVec Ideal S1024x1024 .f32) (i : Fin 2048) (h : Fin 8) (d : Fin 128) : EReal :=
  ∑ l : Fin 1024, x (ix3 0 i l) * wq (ix2 l (colOf h d))

theorem queries_at (c : Dev nD) (g : Fin 4) (h : Fin 8) (k : Fin 512) (d : Fin 128) :
    (V m c main_v6 : FVec Ideal S4x8x512x128 .f32) (ix4 g h k d)
      = qD (m ((c : Thread nD τ).loc main_arg0)) (m ((c : Thread nD τ).loc main_arg1)) (row g k) h d := by
  entry_read
  pointwise [qD]
  rfl

end Cert.AttentionIdeal.Attn

end
-- ==== Proof.AttnFinal.lean ====
/- The array the attention's call returns, group by group. -/
module

public import proofs.«01_k».proof.Proof.AttnPay
public import Idealize.ShloMosaic.Lib.Pipeline.ValueKit
public import Idealize.ShloMosaic.Lib.Claim
public import Idealize.ShloMosaic.Lib.Pointwise

@[expose] public section

set_option maxRecDepth 16384

noncomputable section

namespace Cert.AttentionIdeal.Attn

open Cert.AttentionIdeal Cert.AttentionIdeal.Gen Idealize.ShloMosaic Idealize.ShloMosaic.TcCoe Idealize.SL.Sem
open Idealize.ShloMosaic.Pipeline (Dat)

variable (m : (ℓ : Loc nD τ sig) → Buf (Elt Ideal) ℓ)

/-! ## The array the call returns -/

/-- A group's block of a staged array. -/
def blockOf (A : FVec Ideal S4x8x512x128 .f32) (g : Fin 4) : FVec Ideal S1x8x512x128 .f32 :=
  fun y => A (ix4 g (y 1) (y 2) (y 3))

theorem idx : ∀ t : Fin cfg0.N, win0_0.index t = ![t.val, 0, 0, 0] ∧ win0_1.index t = ![t.val, 0, 0, 0]
    ∧ win0_2.index t = ![t.val, 0, 0, 0] ∧ win0_3.index t = ![0, t.val, 0, 0] ∧ t.val < 4 :=
  (by decide +kernel : ∀ t : Fin grid0.N, _)

/-- The group of a grid point. -/
def grpOf (t : Fin cfg0.N) : Fin 4 := ⟨t.val, (idx t).2.2.2.2⟩

theorem read0 (A : FVec Ideal S4x8x512x128 .f32) (t : Fin cfg0.N) (a : Fin 1) (h : Fin 8) (q : Fin 512) (d : Fin 128) :
    ((cfg0.win 0).blk t).view.read (Elt Ideal) A (ix4 a h q d) = A (ix4 (grpOf t) h q d) := by
  unfold grpOf
  blk_ext [idx t]

theorem iblk0 (c : Dev nD) (t : Fin cfg0.N) : iblk m c 0 t = blockOf (V m c main_v6) (grpOf t) := by
  funext y
  rw [eq_ix4 y]
  exact read0 (V m c main_v6) t (y 0) (y 1) (y 2) (y 3)

theorem read1 (A : FVec Ideal S4x8x512x128 .f32) (t : Fin cfg0.N) (a : Fin 1) (h : Fin 8) (q : Fin 512) (d : Fin 128) :
    ((cfg0.win 1).blk t).view.read (Elt Ideal) A (ix4 a h q d) = A (ix4 (grpOf t) h q d) := by
  unfold grpOf
  blk_ext [idx t]

theorem iblk1 (c : Dev nD) (t : Fin cfg0.N) : iblk m c 1 t = blockOf (V m c main_v10) (grpOf t) := by
  funext y
  rw [eq_ix4 y]
  exact read1 (V m c main_v10) t (y 0) (y 1) (y 2) (y 3)

theorem read2 (A : FVec Ideal S4x8x512x128 .f32) (t : Fin cfg0.N) (a : Fin 1) (h : Fin 8) (q : Fin 512) (d : Fin 128) :
    ((cfg0.win 2).blk t).view.read (Elt Ideal) A (ix4 a h q d) = A (ix4 (grpOf t) h q d) := by
  unfold grpOf
  blk_ext [idx t]

theorem iblk2 (c : Dev nD) (t : Fin cfg0.N) : iblk m c 2 t = blockOf (V m c main_v14) (grpOf t) := by
  funext y
  rw [eq_ix4 y]
  exact read2 (V m c main_v14) t (y 0) (y 1) (y 2) (y 3)

/-- The whole array: each group's result from its own blocks. -/
def result (Q K W : FVec Ideal S4x8x512x128 .f32) : FVec Ideal S8x4x64x1024 .f32 := fun i =>
  k0_pay1 (F := Ideal) (blockOf Q (i 1)) (blockOf K (i 1)) (blockOf W (i 1)) (ix4 (i 0) 0 (i 2) (i 3))

theorem result_emb (Q K W : FVec Ideal S4x8x512x128 .f32) (t : Fin cfg0.N) (y : S8x1x64x1024.Idx) :
    k0_pay1 (F := Ideal) (blockOf Q (grpOf t)) (blockOf K (grpOf t)) (blockOf W (grpOf t)) y
      = result Q K W (((cfg0.win 3).blk t).view.emb y) := by
  have hy : ((cfg0.win 3).blk t).view.emb y = (ix4 (y 0) (grpOf t) (y 2) (y 3) : S8x4x64x1024.Idx) := by
    unfold grpOf
    blk_ext [idx t]
  have h0 : y = (ix4 (y 0) 0 (y 2) (y 3) : S8x1x64x1024.Idx) := by
    refine (eq_ix4 y).trans (congrArg (fun a => ix4 (y 0) a (y 2) (y 3)) ?_)
    exact Subsingleton.elim (α := Fin 1) _ _
  rw [hy]
  exact congrArg _ h0

theorem final (c : Dev nD) : (dats m 0 c).arrAt 3 (cfgs 0).N = result (V m c main_v6) (V m c main_v10) (V m c main_v14) := by
  refine (dats m 0 c).arrAt_eq_of_covers 3 _ (by decide +kernel) fun t _ y => ?_
  have he := result_emb (V m c main_v6) (V m c main_v10) (V m c main_v14) t y
  generalize result (V m c main_v6) (V m c main_v10) (V m c main_v14) = G at he ⊢
  rw [after0_3, iblk0, iblk1, iblk2]
  generalize V m c main_v6 = Q at he ⊢
  generalize V m c main_v10 = K at he ⊢
  generalize V m c main_v14 = W at he ⊢
  blk_simp
  frame_out
  exact he

end Cert.AttentionIdeal.Attn

end
-- ==== Proof.AttnSoftmax.lean ====
/- A softmax whose mask leaves the entries of one group: the weighted sum over all the entries is the weighted sum over the
   group, where the group's scores are real. -/
module

public import Idealize.ShloMosaic.Lib.Pointwise
public import Idealize.ShloMosaic.Lib.IdealHost

@[expose] public section

noncomputable section

namespace Cert.Attn

open Idealize.ShloMosaic

variable {ι κ : Type} [Fintype ι] [Fintype κ]

/-- The greatest of the masked scores is the greatest of the group's. -/
theorem sup_masked (e : κ → ι) (p : ι → Prop) [DecidablePred p] (hp : ∀ j, p j ↔ ∃ k, e k = j) (s : ι → EReal) :
    (Finset.univ.sup fun j => if p j then s j else (⊥ : EReal)) = Finset.univ.sup fun k => s (e k) := by
  refine le_antisymm (Finset.sup_le fun j _ => ?_) (Finset.sup_le fun k _ => ?_)
  · by_cases h : p j
    · obtain ⟨k, rfl⟩ := (hp j).1 h
      rw [if_pos h]
      exact Finset.le_sup (f := fun k => s (e k)) (Finset.mem_univ k)
    · rw [if_neg h]; exact bot_le
  · refine le_trans (le_of_eq ?_) (Finset.le_sup (f := fun j => if p j then s j else (⊥ : EReal)) (Finset.mem_univ (e k)))
    exact (if_pos ((hp _).2 ⟨k, rfl⟩)).symm

/-- The exponential of a real number is not negative. -/
theorem exp_sub_nonneg (a b : ℝ) : 0 ≤ Ideal.exp ((a : EReal) - (b : EReal)) := by
  rw [← EReal.coe_sub, Ideal.exp_coe]
  exact_mod_cast (Real.exp_pos _).le

/-- The sum of the exponentials below the greatest score is not zero. -/
theorem sum_exp_ne_zero [Nonempty κ] (s : κ → EReal) (hs : ∀ k, ∃ r : ℝ, s k = r) :
    ∑ k, Ideal.exp (s k - Finset.univ.sup s) ≠ 0 := by
  obtain ⟨k, -, hk⟩ := Finset.exists_mem_eq_sup Finset.univ Finset.univ_nonempty s
  obtain ⟨r, hr⟩ := hs k
  rw [hk, hr]
  have h1 : Ideal.exp (s k - (r : EReal)) = 1 := by
    rw [hr, ← EReal.coe_sub, Ideal.exp_coe, sub_self, Real.exp_zero]; rfl
  have h2 := Finset.single_le_sum (f := fun k => Ideal.exp (s k - (r : EReal))) (s := Finset.univ)
    (fun i _ => by obtain ⟨q, hq⟩ := hs i; simp only [hq]; exact exp_sub_nonneg q r) (Finset.mem_univ k)
  intro h0
  rw [h0] at h2
  simp only [h1] at h2
  exact absurd h2 (not_le.2 zero_lt_one)

/-- The softmax-weighted sum over all the entries, of which the mask leaves a group, is that over the group. -/
theorem softmax_group [Nonempty κ] (e : κ → ι) (he : Function.Injective e) (p : ι → Prop) [DecidablePred p]
    (hp : ∀ j, p j ↔ ∃ k, e k = j) (s v : ι → EReal) (hs : ∀ k, ∃ r : ℝ, s (e k) = r) :
    ∑ j, v j * Ideal.div (Ideal.exp ((if p j then s j else (⊥ : EReal)) - Finset.univ.sup fun j => if p j then s j else (⊥ : EReal)))
        (∑ j, Ideal.exp ((if p j then s j else (⊥ : EReal)) - Finset.univ.sup fun j => if p j then s j else (⊥ : EReal)))
      = ∑ k, Ideal.div (Ideal.exp (s (e k) - Finset.univ.sup fun k => s (e k)))
          (∑ k, Ideal.exp (s (e k) - Finset.univ.sup fun k => s (e k))) * v (e k) := by
  rw [sup_masked e p hp s]
  have hM : ∃ r : ℝ, (Finset.univ.sup fun k => s (e k)) = r := by
    obtain ⟨k, -, hk⟩ := Finset.exists_mem_eq_sup Finset.univ Finset.univ_nonempty fun k => s (e k)
    obtain ⟨r, hr⟩ := hs k
    exact ⟨r, hk.trans hr⟩
  have hZ := sum_exp_ne_zero (fun k => s (e k)) hs
  obtain ⟨r, hr⟩ := hM
  rw [hr] at hZ ⊢
  have hoff : ∀ j, j ∉ Set.range e → Ideal.exp ((if p j then s j else (⊥ : EReal)) - (r : EReal)) = 0 := fun j hj => by
    rw [if_neg fun h => hj ((hp j).1 h), sub_eq_add_neg, EReal.bot_add, Ideal.exp_bot]
  have hon : ∀ k, Ideal.exp (s (e k) - (r : EReal)) = Ideal.exp ((if p (e k) then s (e k) else (⊥ : EReal)) - (r : EReal)) := fun k => by
    rw [if_pos ((hp _).2 ⟨k, rfl⟩)]
  have hS : ∑ k, Ideal.exp (s (e k) - (r : EReal)) = ∑ j, Ideal.exp ((if p j then s j else (⊥ : EReal)) - (r : EReal)) :=
    Fintype.sum_of_injective e he _ _ hoff hon
  rw [← hS]
  refine (Fintype.sum_of_injective e he _ _ (fun j hj => ?_) fun k => ?_).symm
  · rw [hoff j hj, Ideal.zero_div hZ, mul_zero]
  · rw [← hon k, mul_comm]

end Cert.Attn

end
-- ==== Proof.AttnResult.lean ====
/- The array the attention's call returns is the reference's, entry by entry, where the inputs are real. -/
module

public import proofs.«01_k».proof.Proof.AttnFinal
public import Idealize.ShloMosaic.Lib.Pipeline.ValueKit
public import Idealize.ShloMosaic.Lib.Claim
public import proofs.«01_k».proof.Proof.AttnSoftmax
public import Idealize.ShloMosaic.Lib.Pointwise

@[expose] public section

set_option maxRecDepth 16384

noncomputable section

namespace Cert.AttentionIdeal.Attn

open Cert.AttentionIdeal Cert.AttentionIdeal.Gen Idealize.ShloMosaic Idealize.ShloMosaic.TcCoe Idealize.SL.Sem
open Idealize.ShloMosaic.Pipeline (Dat)

variable (m : (ℓ : Loc nD τ sig) → Buf (Elt Ideal) ℓ)

open Cert.AttentionReferenceIdeal.Attn (qAt sAt mAt)

/-- A row of a group has the group's class. -/
theorem row_class (g : Fin 4) (k : Fin 512) : (row g k).val / 64 % 4 = g.val := by
  show (k.val / 64 * 256 + g.val * 64 + k.val % 64) / 64 % 4 = g.val
  omega

theorem row_inj (g : Fin 4) : Function.Injective (row g) := by
  intro a b e
  have e' : a.val / 64 * 256 + g.val * 64 + a.val % 64 = b.val / 64 * 256 + g.val * 64 + b.val % 64 := congrArg Fin.val e
  exact Fin.ext (by omega)

/-- The keys of a group's class are the group's rows. -/
theorem row_iff (g : Fin 4) (q : Fin 512) (j : Fin 2048) : j.val / 64 % 4 = (row g q).val / 64 % 4 ↔ ∃ k, row g k = j := by
  rw [row_class]
  constructor
  · intro e
    refine ⟨⟨j.val / 256 * 64 + j.val % 64, by omega⟩, Fin.ext ?_⟩
    show (j.val / 256 * 64 + j.val % 64) / 64 * 256 + g.val * 64 + (j.val / 256 * 64 + j.val % 64) % 64 = j.val
    omega
  · rintro ⟨k, rfl⟩
    exact row_class g k

/-- Every entry is a real number. -/
def AllReal {s : Shape} (x : FVec Ideal s .f32) : Prop := ∀ i, ∃ r : ℝ, (x i : EReal) = r

/-! ## Real inputs give real scores -/

theorem real_sum {ι : Type} [Fintype ι] (f : ι → EReal) (h : ∀ i, ∃ r : ℝ, f i = r) : ∃ r : ℝ, ∑ i, f i = r := by
  choose g hg using h
  refine ⟨∑ i, g i, ?_⟩
  rw [Finset.sum_congr rfl fun i _ => hg i]
  exact (map_sum (⟨⟨Real.toEReal, EReal.coe_zero⟩, EReal.coe_add⟩ : ℝ →+ EReal) g Finset.univ).symm

theorem real_mul (a b : EReal) (ha : ∃ r : ℝ, a = r) (hb : ∃ r : ℝ, b = r) : ∃ r : ℝ, a * b = r := by
  obtain ⟨r, rfl⟩ := ha
  obtain ⟨q, rfl⟩ := hb
  exact ⟨r * q, (EReal.coe_mul r q).symm⟩

/-- The scale is a real number. -/
theorem real_scale : ∃ r : ℝ, Ideal.ofBits .f32 0x3DB504F3#32 = r := by
  show ∃ r : ℝ, Ideal.ieee 8 23 (0x3DB504F3#32) = r
  unfold Ideal.ieee
  dsimp only
  rw [if_neg (by decide), if_neg (by decide)]
  exact ⟨_, rfl⟩

/-! ## A device's arrays as blocks of the whole ones -/

/-- The head of the whole problem that a device's head is. -/
def headOf (c : Fin 8) (h : Fin 8) : Fin 64 := ⟨c.val * 8 + h.val, by omega⟩

/-- A device's score. -/
def sD (x : FVec Ideal S1x2048x1024 .f32) (wq : FVec Ideal S1024x1024 .f32) (k : FVec Ideal S1x2048x8x128 .f32)
    (h : Fin 8) (i j : Fin 2048) : EReal :=
  (∑ d : Fin 128, qD x wq i h d * k (ix4 0 j h d)) * Ideal.ofBits .f32 0x3DB504F3#32

theorem real_sD (x : FVec Ideal S1x2048x1024 .f32) (wq : FVec Ideal S1024x1024 .f32) (k : FVec Ideal S1x2048x8x128 .f32)
    (hx : AllReal x) (hw : AllReal wq) (hk : AllReal k) (h : Fin 8) (i j : Fin 2048) : ∃ r : ℝ, sD x wq k h i j = r :=
  real_mul _ _ (real_sum _ fun _ => real_mul _ _ (real_sum _ fun _ => real_mul _ _ (hx _) (hw _)) (hk _)) real_scale

theorem weights_block (c : Fin 8) (W : FVec Ideal ⟨2, ![1024, 8192]⟩ .f32) (l : Fin 1024) (h : Fin 8) (d : Fin 128) :
    (Layout.block ⟨2, ![1024, 1024]⟩ ⟨2, ![1024, 8192]⟩ 1 8 c W : FVec Ideal S1024x1024 .f32) (ix2 l (colOf h d))
      = W (ix2 l ⟨(headOf c h).val * 128 + d.val, by have := (headOf c h).isLt; omega⟩) := by
  rw [Layout.block_apply]
  congr 1
  funext a
  apply Fin.ext
  match a with
  | ⟨0, _⟩ => rfl
  | ⟨1, _⟩ => show c.val * 1024 + (h.val * 128 + d.val) = (c.val * 8 + h.val) * 128 + d.val; omega

theorem heads_block (c : Fin 8) (K : FVec Ideal ⟨4, ![1, 2048, 64, 128]⟩ .f32) (j : Fin 2048) (h : Fin 8) (d : Fin 128) :
    (Layout.block ⟨4, ![1, 2048, 8, 128]⟩ ⟨4, ![1, 2048, 64, 128]⟩ 2 8 c K : FVec Ideal S1x2048x8x128 .f32) (ix4 0 j h d)
      = K (ix4 0 j (headOf c h) d) := by
  rw [Layout.block_apply]
  congr 1
  funext a
  apply Fin.ext
  match a with
  | ⟨0, _⟩ => rfl
  | ⟨1, _⟩ => rfl
  | ⟨2, _⟩ => rfl
  | ⟨3, _⟩ => rfl

section
variable (x : FVec Ideal S1x2048x1024 .f32) (W : FVec Ideal ⟨2, ![1024, 8192]⟩ .f32) (K Y : FVec Ideal ⟨4, ![1, 2048, 64, 128]⟩ .f32)

/-- A device's score is that of its head. -/
theorem sD_eq (c : Fin 8) (h : Fin 8) (i j : Fin 2048) :
    sD x (Layout.block ⟨2, ![1024, 1024]⟩ ⟨2, ![1024, 8192]⟩ 1 8 c W)
        (Layout.block ⟨4, ![1, 2048, 8, 128]⟩ ⟨4, ![1, 2048, 64, 128]⟩ 2 8 c K) h i j
      = sAt x W K (headOf c h) i j := by
  unfold sD sAt qD qAt
  refine Ideal.mul_congr (Finset.sum_congr rfl fun d _ => Ideal.mul_congr (Finset.sum_congr rfl fun l _ => Ideal.mul_congr rfl ?_) ?_) rfl
  · exact weights_block c W l h d
  · exact heads_block c K j h d

/-- The reference at a group's row is the group's own softmax. -/
theorem out_group (n : Fin 8) (g : Fin 4) (r : Fin 64) (h : Fin 64) (d : Fin 128)
    (hs : ∀ i j, ∃ q : ℝ, sAt x W K h i j = q) :
    Cert.AttentionReferenceIdeal.Attn.outV x W K Y (ix4 n g r ⟨h.val * 128 + d.val, by omega⟩)
      = groupSoftmax (fun k => sAt x W K h (row g (rowIn n r)) (row g k)) (fun k => Y (ix4 0 (row g k) h d)) := by
  have hr : (⟨n.val * 256 + g.val * 64 + r.val, by omega⟩ : Fin 2048) = row g (rowIn n r) := by
    apply Fin.ext
    show n.val * 256 + g.val * 64 + r.val = (n.val * 64 + r.val) / 64 * 256 + g.val * 64 + (n.val * 64 + r.val) % 64
    omega
  refine (Cert.AttentionReferenceIdeal.Attn.out_at x W K Y n g r h d).trans ?_
  rw [hr]
  refine Eq.trans (Finset.sum_congr rfl fun j _ => Ideal.mul_congr rfl
    ((Cert.AttentionReferenceIdeal.Attn.weight_at x W K h (row g (rowIn n r)) j).trans
      (congrArg₂ Ideal.div (Cert.AttentionReferenceIdeal.Attn.exp_at x W K h (row g (rowIn n r)) j)
        (Cert.AttentionReferenceIdeal.Attn.sum_at x W K h (row g (rowIn n r)))))) ?_
  exact Cert.Attn.softmax_group (row g) (row_inj g) (fun j => j.val / 64 % 4 = (row g (rowIn n r)).val / 64 % 4) (row_iff g (rowIn n r))
    (fun j => sAt x W K h (row g (rowIn n r)) j) (fun j => Y (ix4 0 j h d)) fun l => hs _ _

end

/-- The array the call returns on a device, at a row and a head's column. -/
theorem result_at (c : Dev nD) (n : Fin 8) (g : Fin 4) (r : Fin 64) (h : Fin 8) (d : Fin 128) :
    result (V m c main_v6) (V m c main_v10) (V m c main_v14) (ix4 n g r (colOf h d))
      = groupSoftmax
          (fun k => sD (m ((c : Thread nD τ).loc main_arg0)) (m ((c : Thread nD τ).loc main_arg1)) (m ((c : Thread nD τ).loc main_arg2)) h (row g (rowIn n r)) (row g k))
          (fun k => (m ((c : Thread nD τ).loc main_arg3) : FVec Ideal S1x2048x8x128 .f32) (ix4 0 (row g k) h d)) := by
  have hs : ∀ k, sB (blockOf (V m c main_v6) g) (blockOf (V m c main_v10) g) h (rowIn n r) k
      = sD (m ((c : Thread nD τ).loc main_arg0)) (m ((c : Thread nD τ).loc main_arg1)) (m ((c : Thread nD τ).loc main_arg2)) h (row g (rowIn n r)) (row g k) := by
    intro k
    unfold sB sD
    refine Ideal.mul_congr (Finset.sum_congr rfl fun d _ => Ideal.mul_congr ?_ ?_) rfl
    · exact queries_at m c g h (rowIn n r) d
    · exact keys_at m c g h k d
  exact (pay_at _ _ _ n r h d).trans (congrArg₂ groupSoftmax (funext hs) (funext fun k => vals_at m c g h k d))

/-- A column of a device's heads lies in a head. -/
theorem col_eq (q : Fin 1024) : q = colOf ⟨q.val / 128, by omega⟩ ⟨q.val % 128, by omega⟩ := by
  apply Fin.ext
  show q.val = q.val / 128 * 128 + q.val % 128
  omega

/-- The array the call returns on a device is the device's block of the reference's result, where the device's activations, weights
    and keys are real. -/
theorem result_eq (c : Dev nD) (x : FVec Ideal S1x2048x1024 .f32) (W : FVec Ideal ⟨2, ![1024, 8192]⟩ .f32)
    (K Y : FVec Ideal ⟨4, ![1, 2048, 64, 128]⟩ .f32)
    (h0 : m ((c : Thread nD τ).loc main_arg0) = x)
    (h1 : m ((c : Thread nD τ).loc main_arg1) = Layout.block ⟨2, ![1024, 1024]⟩ ⟨2, ![1024, 8192]⟩ 1 8 c W)
    (h2 : m ((c : Thread nD τ).loc main_arg2) = Layout.block ⟨4, ![1, 2048, 8, 128]⟩ ⟨4, ![1, 2048, 64, 128]⟩ 2 8 c K)
    (h3 : m ((c : Thread nD τ).loc main_arg3) = Layout.block ⟨4, ![1, 2048, 8, 128]⟩ ⟨4, ![1, 2048, 64, 128]⟩ 2 8 c Y)
    (hx : AllReal (s := S1x2048x1024) (m ((c : Thread nD τ).loc main_arg0)))
    (hw : AllReal (s := S1024x1024) (m ((c : Thread nD τ).loc main_arg1)))
    (hk : AllReal (s := S1x2048x8x128) (m ((c : Thread nD τ).loc main_arg2))) :
    result (V m c main_v6) (V m c main_v10) (V m c main_v14)
      = Layout.block ⟨4, ![8, 4, 64, 1024]⟩ ⟨4, ![8, 4, 64, 8192]⟩ 3 8 c (Cert.AttentionReferenceIdeal.Attn.outV x W K Y) := by
  have key : ∀ (n : Fin 8) (g : Fin 4) (r : Fin 64) (h : Fin 8) (d : Fin 128),
      result (V m c main_v6) (V m c main_v10) (V m c main_v14) (ix4 n g r (colOf h d))
        = Cert.AttentionReferenceIdeal.Attn.outV x W K Y (ix4 n g r ⟨(headOf c h).val * 128 + d.val, by have := (headOf c h).isLt; omega⟩) := by
    intro n g r h d
    have hr : ∀ i j, ∃ q : ℝ, sAt x W K (headOf c h) i j = q := fun i j => by
      have e := real_sD _ _ _ hx hw hk h i j
      rw [h0, h1, h2] at e
      exact (sD_eq x W K c h i j) ▸ e
    rw [out_group x W K Y n g r (headOf c h) d hr, result_at, h0, h1, h2, h3]
    exact congrArg₂ groupSoftmax (funext fun k => sD_eq x W K c h _ _) (funext fun k => heads_block c Y (row g k) h d)
  funext i
  have hi : i = (ix4 (i 0) (i 1) (i 2) (colOf ⟨(i 3).val / 128, by have : (i 3).val < 1024 := (i 3).isLt; omega⟩ ⟨(i 3).val % 128, by omega⟩) : S8x4x64x1024.Idx) :=
    (eq_ix4 i).trans (congrArg (fun q => ix4 (i 0) (i 1) (i 2) q) (col_eq (i 3)))
  refine (congrArg _ hi).trans ((key (i 0) (i 1) (i 2) ⟨(i 3).val / 128, by have : (i 3).val < 1024 := (i 3).isLt; omega⟩ ⟨(i 3).val % 128, by omega⟩).trans ?_)
  rw [Layout.block_apply]
  congr 1
  funext a
  apply Fin.ext
  match a with
  | ⟨0, _⟩ => rfl
  | ⟨1, _⟩ => rfl
  | ⟨2, _⟩ => rfl
  | ⟨3, _⟩ =>
    show (c.val * 8 + (i 3).val / 128) * 128 + (i 3).val % 128 = c.val * 1024 + (i 3).val
    omega

end Cert.AttentionIdeal.Attn

end
-- ==== Proof.lean ====
module

public import proofs.«01_k».proof.Proof.Gen.AttentionIdeal.Value
public import proofs.«01_k».proof.Proof.Gen.Attention.Frame
public import proofs.«01_k».proof.Proof.Gen.Pre_finite_inputs_AttentionIdeal
public import proofs.«01_k».proof.Proof.Gen.Pre_finite_inputs_AttentionReferenceIdeal
public import proofs.«01_k».proof.Proof.Gen.AttentionReferenceIdeal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.AttnFinite
public import proofs.«01_k».proof.Proof.AttnResult
public import Idealize.ShloMosaic.Adequacy
public import Idealize.ShloMosaic.Init

@[expose] public section

noncomputable section

namespace Cert.Proof

open Idealize.ShloMosaic Idealize.SL.Sem

/-- The run with the result's value dropped, of any program whose text is the kernel's: the arguments end as launched, every counter at zero. -/
theorem run_frame {F : FTy → Type} [FloatOps F]
    (D : Defs Cert.KernelIdeal.nD Cert.KernelIdeal.τ Cert.KernelIdeal.sig (Elt F) (Pipeline.Sig Cert.KernelIdeal.Λ₀ (Fin 1) fun p => (Cert.KernelIdeal.pcfgs (F := F) p).Adm))
    (hD : D = Cert.KernelIdeal.defs)
    (M : Dev Cert.KernelIdeal.nD → Prog (TpuEff Cert.KernelIdeal.nD Cert.KernelIdeal.τ Cert.KernelIdeal.sig (Elt F)
      (Pipeline.Sig Cert.KernelIdeal.Λ₀ (Fin 1) fun p => (Cert.KernelIdeal.pcfgs (F := F) p).Adm) .tc) PUnit) (hM : M = Cert.KernelIdeal.main)
    (m : (ℓ : Loc Cert.KernelIdeal.nD Cert.KernelIdeal.τ Cert.KernelIdeal.sig) → Buf (Elt F) ℓ) (ρ : Dev Cert.KernelIdeal.nD → PrngReg) :
    θ_run D (onTc (τ := Cert.KernelIdeal.τ) M) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) := by
  subst hD hM
  exact (θ_run Cert.KernelIdeal.defs _ _).mono (fun _ h => ⟨fun c => (h.1 c).2, h.2⟩) (Cert.KernelIdeal.Talk.run_main (F := F) m ρ)

/-- The body tables of the two programs are the same. -/
theorem defs₀_eq {F : FTy → Type} [FloatOps F] : Cert.Kernel.defs₀ (F := F) = Cert.KernelIdeal.defs₀ := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) ?_
  funext l a
  match l, a with
  | ⟨0, _⟩, (t, s) => rfl

/-- So are the tables with the pipelines. -/
theorem defs_eq {F : FTy → Type} [FloatOps F] : Cert.Kernel.defs (F := F) = Cert.KernelIdeal.defs :=
  congrArg (Pipeline.defs (Cert.KernelIdeal.pcfgs (F := F))) defs₀_eq

/-- So are the host programs. -/
theorem main_eq {F : FTy → Type} [FloatOps F] : Cert.Kernel.main (F := F) = Cert.KernelIdeal.main := rfl

/-- The printed kernel runs on the eight devices, its arguments end as launched and every counter at zero. -/
theorem frame_kernel : Cert.quiescent_Kernel := fun m ρ _ =>
  run_frame (F := Bits) _ defs_eq _ main_eq m ρ

/-- The same of the ideal kernel. -/
theorem frame_kernelIdeal : Cert.quiescent_KernelIdeal := fun m ρ _ => run_frame (F := Ideal) _ rfl _ rfl m ρ

/-- The reference runs, its arguments end as launched and every counter at zero. -/
theorem frame_referenceIdeal : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

/-- The reference's result on its one device. -/
def refV (m' : (ℓ : Loc Cert.ReferenceIdeal.nD Cert.ReferenceIdeal.τ Cert.ReferenceIdeal.sig) → Buf (Elt Ideal) ℓ) : FVec Ideal Cert.ReferenceIdeal.S1x2048x1024 .f32 :=
  shapeCast Cert.ReferenceIdeal.S1x2048x1024 (Host.dotGeneral (F := Ideal) (φ₁ := .f32) (φ₂ := .f32) Cert.ReferenceIdeal.dot_S2048x8192_S8192x1024_S2048x1024_1_0_0_1_n_n none
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)))
    Cert.ReferenceIdeal.Gen.shapeCasts_S2048x1024_S1x2048x1024

/-- Both programs run at the ideal values, and every device's result is the reference's. -/
theorem algebraic : Cert.algebraic_KernelIdeal_ReferenceIdeal := fun m g m' g' _ h =>
  ⟨refV m',
    (θ_run Cert.KernelIdeal.defs _ _).mono (fun _ hr c => ⟨(hr.1 c).1.trans
        (Cert.KernelIdeal.Talk.result_eq m _ _ (fun c => (h c).1) (fun c => (h c).2) _ rfl _), (hr.1 c).2⟩)
      (Cert.KernelIdeal.Talk.run_main (F := Ideal) m g),
    (θ_run Cert.ReferenceIdeal.defs _ _).mono (fun _ hr => hr 0) (Cert.ReferenceIdeal.Value.run (F := Ideal) m' g')⟩

/-! ## The attention -/

/-- The printed attention runs, its arguments end as launched and every counter at zero. -/
theorem frame_attention : Cert.quiescent_Attention := fun m ρ _ => Cert.Attention.Gen.frame (F := Bits) m ρ

/-- The same of the ideal attention. -/
theorem frame_attentionIdeal : Cert.quiescent_AttentionIdeal := fun m ρ _ => Cert.AttentionIdeal.Gen.frame (F := Ideal) m ρ

/-- The attention's reference runs, its arguments end as launched and every counter at zero. -/
theorem frame_attentionReferenceIdeal : Cert.quiescent_AttentionReferenceIdeal := fun m ρ _ =>
  (θ_run Cert.AttentionReferenceIdeal.defs _ _).mono (fun r h => ⟨fun c => (h c).2, sem_eq_zero_of_no_sems rfl r.2⟩)
    (Cert.AttentionReferenceIdeal.Value.run (F := Ideal) m ρ)

/-- The array the call returns on a device is the device's block of the reference's result, from arguments that are its blocks of the reference's. -/
theorem attention_eq (m : (ℓ : Loc Cert.AttentionIdeal.nD Cert.AttentionIdeal.τ Cert.AttentionIdeal.sig) → Buf (Elt Ideal) ℓ)
    (m' : (ℓ : Loc Cert.AttentionReferenceIdeal.nD Cert.AttentionReferenceIdeal.τ Cert.AttentionReferenceIdeal.sig) → Buf (Elt Ideal) ℓ)
    (hp : Cert.Pre_AttentionIdeal_finite_inputs_AttentionIdeal m) (c : Dev Cert.AttentionIdeal.nD)
    (h0 : m ((c.tc : Thread Cert.AttentionIdeal.nD Cert.AttentionIdeal.τ).loc Cert.AttentionIdeal.main_arg0) = m' (((0 : Dev Cert.AttentionReferenceIdeal.nD).tc : Thread Cert.AttentionReferenceIdeal.nD Cert.AttentionReferenceIdeal.τ).loc Cert.AttentionReferenceIdeal.main_arg0))
    (h1 : m ((c.tc : Thread Cert.AttentionIdeal.nD Cert.AttentionIdeal.τ).loc Cert.AttentionIdeal.main_arg1) = Layout.block ⟨2, ![1024, 1024]⟩ ⟨2, ![1024, 8192]⟩ 1 8 c (m' (((0 : Dev Cert.AttentionReferenceIdeal.nD).tc : Thread Cert.AttentionReferenceIdeal.nD Cert.AttentionReferenceIdeal.τ).loc Cert.AttentionReferenceIdeal.main_arg1)))
    (h2 : m ((c.tc : Thread Cert.AttentionIdeal.nD Cert.AttentionIdeal.τ).loc Cert.AttentionIdeal.main_arg2) = Layout.block ⟨4, ![1, 2048, 8, 128]⟩ ⟨4, ![1, 2048, 64, 128]⟩ 2 8 c (m' (((0 : Dev Cert.AttentionReferenceIdeal.nD).tc : Thread Cert.AttentionReferenceIdeal.nD Cert.AttentionReferenceIdeal.τ).loc Cert.AttentionReferenceIdeal.main_arg2)))
    (h3 : m ((c.tc : Thread Cert.AttentionIdeal.nD Cert.AttentionIdeal.τ).loc Cert.AttentionIdeal.main_arg3) = Layout.block ⟨4, ![1, 2048, 8, 128]⟩ ⟨4, ![1, 2048, 64, 128]⟩ 2 8 c (m' (((0 : Dev Cert.AttentionReferenceIdeal.nD).tc : Thread Cert.AttentionReferenceIdeal.nD Cert.AttentionReferenceIdeal.τ).loc Cert.AttentionReferenceIdeal.main_arg3))) :
    (Cert.AttentionIdeal.Gen.dats m 0 c).arrAt 3 Cert.AttentionIdeal.cfg0.N
      = Layout.block ⟨4, ![8, 4, 64, 1024]⟩ ⟨4, ![8, 4, 64, 8192]⟩ 3 8 c (Cert.AttentionReferenceIdeal.Value.res_out0 m' 0) := by
  rw [Cert.AttentionReferenceIdeal.Attn.res_eq]
  refine (Cert.AttentionIdeal.Attn.final m c).trans ?_
  exact Cert.AttentionIdeal.Attn.result_eq m c _ _ _ _ h0 h1 h2 h3 (Cert.Pre_finite_inputs_AttentionIdeal.Attn.real_x _ _ _ _ (hp c))
    (Cert.Pre_finite_inputs_AttentionIdeal.Attn.real_wq _ _ _ _ (hp c)) (Cert.Pre_finite_inputs_AttentionIdeal.Attn.real_k _ _ _ _ (hp c))

/-- Both programs run at the ideal values, and the arrays the call returns are the blocks of the reference's result. -/
theorem attention_algebraic : Cert.algebraic_AttentionIdeal_AttentionReferenceIdeal_pre_finite_inputs_AttentionIdeal := fun m g m' g' hp h =>
  ⟨Cert.AttentionReferenceIdeal.Value.res_out0 m' 0,
    (θ_run Cert.AttentionIdeal.defs _ _).mono
      (fun _ hr c => ⟨(hr c).1.trans (attention_eq m m' hp c (h c).1 (h c).2.1 (h c).2.2.1 (h c).2.2.2), (hr c).2⟩)
      (Cert.AttentionIdeal.Value.run_blocks (F := Ideal) m g),
    (θ_run Cert.AttentionReferenceIdeal.defs _ _).mono (fun _ hr => hr 0)
      (Cert.AttentionReferenceIdeal.Value.run (F := Ideal) m' g')⟩

theorem claim : Cert.Claim := ⟨Cert.Kernel.Gen.facts, Cert.KernelIdeal.Gen.facts, Cert.ReferenceIdeal.Gen.facts,
  Cert.Attention.Gen.facts, Cert.AttentionIdeal.Gen.facts, Cert.AttentionReferenceIdeal.Gen.facts,
  Cert.Pre_finite_inputs_AttentionIdeal.Gen.facts, Cert.Pre_finite_inputs_AttentionReferenceIdeal.Gen.facts,
  frame_kernel, frame_kernelIdeal, frame_referenceIdeal,
  frame_attention, frame_attentionIdeal, fun m ρ _ => frame_attentionIdeal m ρ trivial,
  frame_attentionReferenceIdeal, fun m ρ _ => frame_attentionReferenceIdeal m ρ trivial,
  trivial, algebraic, trivial, attention_algebraic⟩

end Cert.Proof

end
